-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S512x512 : Shape := ⟨2, ![512, 512]⟩
abbrev S8x64x512 : Shape := ⟨3, ![8, 64, 512]⟩
abbrev S8 : Shape := ⟨1, ![8]⟩
abbrev S_ : Shape := ⟨0, ![]⟩
abbrev S1x64x512 : Shape := ⟨3, ![1, 64, 512]⟩
abbrev S1 : Shape := ⟨1, ![1]⟩
abbrev S256x512 : Shape := ⟨2, ![256, 512]⟩
abbrev S256x1024 : Shape := ⟨2, ![256, 1024]⟩

abbrev nBuf : Space → Nat
  | .hbm => 8
  | .vmem => 11
  | .smem => 0
  | _ => 0

abbrev bufTy : (tb : Table) → Fin (tcTables nBuf tb) → BufTy
  | .hbm, ⟨0, _⟩ => ⟨S64x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S512x512, .f32⟩
  | .local _ .vmem, ⟨0, _⟩ => ⟨S64x512, .bf16⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S512x512, .f32⟩
  | .local _ .vmem, ⟨8, _⟩ => ⟨S8x64x512, .bf16⟩
  | .local _ .vmem, ⟨9, _⟩ => ⟨S8x64x512, .bf16⟩
  | .local _ .vmem, ⟨10, _⟩ => ⟨S8x64x512, .bf16⟩
  | _, _ => ⟨S64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : Index := Scalar.indexCast v2
  let c0_65 : Index := 0#32
  let c0_66 : Index := 0#32
  ![v97.toNat, 0, 0]
def k0_off2 (d0 : Dev nD) (c1_i32_67 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v101 : BitVec 32 := Scalar.addi v2 c1_i32_67
  let c8_i32_68 : BitVec 32 := 8#32
  let c0_i32_69 : BitVec 32 := 0#32
  let v102 : BitVec 1 := Scalar.cmpi .eq c8_i32_68 c0_i32_69
  let c1_i32_70 : BitVec 32 := 1#32
  let v103 : BitVec 32 := Scalar.select v102 c1_i32_70 c8_i32_68
  let v104 : BitVec 32 := Scalar.remsi v101 v103
  let c0_i32_72 : BitVec 32 := 0#32
  let v106 : BitVec 1 := Scalar.cmpi .slt v104 c0_i32_72
  let c0_i32_73 : BitVec 32 := 0#32
  let v107 : BitVec 1 := Scalar.cmpi .slt v103 c0_i32_73
  let v108 : BitVec 1 := Scalar.xori v106 v107
  let c0_i32_71 : BitVec 32 := 0#32
  let v105 : BitVec 1 := Scalar.cmpi .ne v104 c0_i32_71
  let v109 : BitVec 1 := Scalar.andi v108 v105
  let v110 : BitVec 32 := Scalar.addi v104 v103
  let v111 : BitVec 32 := Scalar.select v109 v110 v104
  ![v111.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_76 : BitVec 32 := 0#32
  let c0_i32_77 : BitVec 32 := 0#32
  ![v2.toNat, 0, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v101 : BitVec 32 := Scalar.addi v2 c1_i32_67
  let c8_i32_68 : BitVec 32 := 8#32
  let c0_i32_69 : BitVec 32 := 0#32
  let v102 : BitVec 1 := Scalar.cmpi .eq c8_i32_68 c0_i32_69
  let c1_i32_70 : BitVec 32 := 1#32
  let v103 : BitVec 32 := Scalar.select v102 c1_i32_70 c8_i32_68
  let v104 : BitVec 32 := Scalar.remsi v101 v103
  let c0_i32_72 : BitVec 32 := 0#32
  let v106 : BitVec 1 := Scalar.cmpi .slt v104 c0_i32_72
  let c0_i32_73 : BitVec 32 := 0#32
  let v107 : BitVec 1 := Scalar.cmpi .slt v103 c0_i32_73
  let v108 : BitVec 1 := Scalar.xori v106 v107
  let c0_i32_71 : BitVec 32 := 0#32
  let v105 : BitVec 1 := Scalar.cmpi .ne v104 c0_i32_71
  let v109 : BitVec 1 := Scalar.andi v108 v105
  let v110 : BitVec 32 := Scalar.addi v104 v103
  let v111 : BitVec 32 := Scalar.select v109 v110 v104
  let c1_i32_74 : BitVec 32 := 1#32
  let v112 : BitVec 32 := Scalar.muli v111 c1_i32_74
  let v113 : BitVec 32 := Scalar.addi c0_i32_75 v112
  v113.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_80 : BitVec 32 := 2#32
  let v122 : BitVec 32 := Scalar.addi v2 c2_i32_80
  let c8_i32_81 : BitVec 32 := 8#32
  let c0_i32_82 : BitVec 32 := 0#32
  let v123 : BitVec 1 := Scalar.cmpi .eq c8_i32_81 c0_i32_82
  let c1_i32_83 : BitVec 32 := 1#32
  let v124 : BitVec 32 := Scalar.select v123 c1_i32_83 c8_i32_81
  let v125 : BitVec 32 := Scalar.remsi v122 v124
  let c0_i32_85 : BitVec 32 := 0#32
  let v127 : BitVec 1 := Scalar.cmpi .slt v125 c0_i32_85
  let c0_i32_86 : BitVec 32 := 0#32
  let v128 : BitVec 1 := Scalar.cmpi .slt v124 c0_i32_86
  let v129 : BitVec 1 := Scalar.xori v127 v128
  let c0_i32_84 : BitVec 32 := 0#32
  let v126 : BitVec 1 := Scalar.cmpi .ne v125 c0_i32_84
  let v130 : BitVec 1 := Scalar.andi v129 v126
  let v131 : BitVec 32 := Scalar.addi v125 v124
  let v132 : BitVec 32 := Scalar.select v130 v131 v125
  let c1_i32_87 : BitVec 32 := 1#32
  let v133 : BitVec 32 := Scalar.muli v132 c1_i32_87
  let v134 : BitVec 32 := Scalar.addi c0_i32_88 v133
  v134.toNat
def k0_dev10 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_93 : BitVec 32 := 3#32
  let v143 : BitVec 32 := Scalar.addi v2 c3_i32_93
  let c8_i32_94 : BitVec 32 := 8#32
  let c0_i32_95 : BitVec 32 := 0#32
  let v144 : BitVec 1 := Scalar.cmpi .eq c8_i32_94 c0_i32_95
  let c1_i32_96 : BitVec 32 := 1#32
  let v145 : BitVec 32 := Scalar.select v144 c1_i32_96 c8_i32_94
  let v146 : BitVec 32 := Scalar.remsi v143 v145
  let c0_i32_98 : BitVec 32 := 0#32
  let v148 : BitVec 1 := Scalar.cmpi .slt v146 c0_i32_98
  let c0_i32_99 : BitVec 32 := 0#32
  let v149 : BitVec 1 := Scalar.cmpi .slt v145 c0_i32_99
  let v150 : BitVec 1 := Scalar.xori v148 v149
  let c0_i32_97 : BitVec 32 := 0#32
  let v147 : BitVec 1 := Scalar.cmpi .ne v146 c0_i32_97
  let v151 : BitVec 1 := Scalar.andi v150 v147
  let v152 : BitVec 32 := Scalar.addi v146 v145
  let v153 : BitVec 32 := Scalar.select v151 v152 v146
  let c1_i32_100 : BitVec 32 := 1#32
  let v154 : BitVec 32 := Scalar.muli v153 c1_i32_100
  let v155 : BitVec 32 := Scalar.addi c0_i32_101 v154
  v155.toNat
def k0_dev11 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_106 : BitVec 32 := 4#32
  let v164 : BitVec 32 := Scalar.addi v2 c4_i32_106
  let c8_i32_107 : BitVec 32 := 8#32
  let c0_i32_108 : BitVec 32 := 0#32
  let v165 : BitVec 1 := Scalar.cmpi .eq c8_i32_107 c0_i32_108
  let c1_i32_109 : BitVec 32 := 1#32
  let v166 : BitVec 32 := Scalar.select v165 c1_i32_109 c8_i32_107
  let v167 : BitVec 32 := Scalar.remsi v164 v166
  let c0_i32_111 : BitVec 32 := 0#32
  let v169 : BitVec 1 := Scalar.cmpi .slt v167 c0_i32_111
  let c0_i32_112 : BitVec 32 := 0#32
  let v170 : BitVec 1 := Scalar.cmpi .slt v166 c0_i32_112
  let v171 : BitVec 1 := Scalar.xori v169 v170
  let c0_i32_110 : BitVec 32 := 0#32
  let v168 : BitVec 1 := Scalar.cmpi .ne v167 c0_i32_110
  let v172 : BitVec 1 := Scalar.andi v171 v168
  let v173 : BitVec 32 := Scalar.addi v167 v166
  let v174 : BitVec 32 := Scalar.select v172 v173 v167
  let c1_i32_113 : BitVec 32 := 1#32
  let v175 : BitVec 32 := Scalar.muli v174 c1_i32_113
  let v176 : BitVec 32 := Scalar.addi c0_i32_114 v175
  v176.toNat
def k0_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_119 : BitVec 32 := 5#32
  let v185 : BitVec 32 := Scalar.addi v2 c5_i32_119
  let c8_i32_120 : BitVec 32 := 8#32
  let c0_i32_121 : BitVec 32 := 0#32
  let v186 : BitVec 1 := Scalar.cmpi .eq c8_i32_120 c0_i32_121
  let c1_i32_122 : BitVec 32 := 1#32
  let v187 : BitVec 32 := Scalar.select v186 c1_i32_122 c8_i32_120
  let v188 : BitVec 32 := Scalar.remsi v185 v187
  let c0_i32_124 : BitVec 32 := 0#32
  let v190 : BitVec 1 := Scalar.cmpi .slt v188 c0_i32_124
  let c0_i32_125 : BitVec 32 := 0#32
  let v191 : BitVec 1 := Scalar.cmpi .slt v187 c0_i32_125
  let v192 : BitVec 1 := Scalar.xori v190 v191
  let c0_i32_123 : BitVec 32 := 0#32
  let v189 : BitVec 1 := Scalar.cmpi .ne v188 c0_i32_123
  let v193 : BitVec 1 := Scalar.andi v192 v189
  let v194 : BitVec 32 := Scalar.addi v188 v187
  let v195 : BitVec 32 := Scalar.select v193 v194 v188
  let c1_i32_126 : BitVec 32 := 1#32
  let v196 : BitVec 32 := Scalar.muli v195 c1_i32_126
  let v197 : BitVec 32 := Scalar.addi c0_i32_127 v196
  v197.toNat
def k0_dev13 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_132 : BitVec 32 := 6#32
  let v206 : BitVec 32 := Scalar.addi v2 c6_i32_132
  let c8_i32_133 : BitVec 32 := 8#32
  let c0_i32_134 : BitVec 32 := 0#32
  let v207 : BitVec 1 := Scalar.cmpi .eq c8_i32_133 c0_i32_134
  let c1_i32_135 : BitVec 32 := 1#32
  let v208 : BitVec 32 := Scalar.select v207 c1_i32_135 c8_i32_133
  let v209 : BitVec 32 := Scalar.remsi v206 v208
  let c0_i32_137 : BitVec 32 := 0#32
  let v211 : BitVec 1 := Scalar.cmpi .slt v209 c0_i32_137
  let c0_i32_138 : BitVec 32 := 0#32
  let v212 : BitVec 1 := Scalar.cmpi .slt v208 c0_i32_138
  let v213 : BitVec 1 := Scalar.xori v211 v212
  let c0_i32_136 : BitVec 32 := 0#32
  let v210 : BitVec 1 := Scalar.cmpi .ne v209 c0_i32_136
  let v214 : BitVec 1 := Scalar.andi v213 v210
  let v215 : BitVec 32 := Scalar.addi v209 v208
  let v216 : BitVec 32 := Scalar.select v214 v215 v209
  let c1_i32_139 : BitVec 32 := 1#32
  let v217 : BitVec 32 := Scalar.muli v216 c1_i32_139
  let v218 : BitVec 32 := Scalar.addi c0_i32_140 v217
  v218.toNat
def k0_dev14 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_145 : BitVec 32 := 7#32
  let v227 : BitVec 32 := Scalar.addi v2 c7_i32_145
  let c8_i32_146 : BitVec 32 := 8#32
  let c0_i32_147 : BitVec 32 := 0#32
  let v228 : BitVec 1 := Scalar.cmpi .eq c8_i32_146 c0_i32_147
  let c1_i32_148 : BitVec 32 := 1#32
  let v229 : BitVec 32 := Scalar.select v228 c1_i32_148 c8_i32_146
  let v230 : BitVec 32 := Scalar.remsi v227 v229
  let c0_i32_150 : BitVec 32 := 0#32
  let v232 : BitVec 1 := Scalar.cmpi .slt v230 c0_i32_150
  let c0_i32_151 : BitVec 32 := 0#32
  let v233 : BitVec 1 := Scalar.cmpi .slt v229 c0_i32_151
  let v234 : BitVec 1 := Scalar.xori v232 v233
  let c0_i32_149 : BitVec 32 := 0#32
  let v231 : BitVec 1 := Scalar.cmpi .ne v230 c0_i32_149
  let v235 : BitVec 1 := Scalar.andi v234 v231
  let v236 : BitVec 32 := Scalar.addi v230 v229
  let v237 : BitVec 32 := Scalar.select v235 v236 v230
  let c1_i32_152 : BitVec 32 := 1#32
  let v238 : BitVec 32 := Scalar.muli v237 c1_i32_152
  let v239 : BitVec 32 := Scalar.addi c0_i32_153 v238
  v239.toNat
def k0_off5 (d0 : Dev nD) (c7_i32_162 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v252 : BitVec 32 := Scalar.addi v2 c7_i32_162
  let c8_i32_163 : BitVec 32 := 8#32
  let c0_i32_164 : BitVec 32 := 0#32
  let v253 : BitVec 1 := Scalar.cmpi .eq c8_i32_163 c0_i32_164
  let c1_i32_165 : BitVec 32 := 1#32
  let v254 : BitVec 32 := Scalar.select v253 c1_i32_165 c8_i32_163
  let v255 : BitVec 32 := Scalar.remsi v252 v254
  let c0_i32_167 : BitVec 32 := 0#32
  let v257 : BitVec 1 := Scalar.cmpi .slt v255 c0_i32_167
  let c0_i32_168 : BitVec 32 := 0#32
  let v258 : BitVec 1 := Scalar.cmpi .slt v254 c0_i32_168
  let v259 : BitVec 1 := Scalar.xori v257 v258
  let c0_i32_166 : BitVec 32 := 0#32
  let v256 : BitVec 1 := Scalar.cmpi .ne v255 c0_i32_166
  let v260 : BitVec 1 := Scalar.andi v259 v256
  let v261 : BitVec 32 := Scalar.addi v255 v254
  let v262 : BitVec 32 := Scalar.select v260 v261 v255
  let c0_i32_171 : BitVec 32 := 0#32
  let c0_i32_172 : BitVec 32 := 0#32
  ![v262.toNat, 0, 0]
def k0_off6 (d0 : Dev nD) (c0_i32_201 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.addi v2 c0_i32_201
  let c8_i32_202 : BitVec 32 := 8#32
  let c0_i32_203 : BitVec 32 := 0#32
  let v310 : BitVec 1 := Scalar.cmpi .eq c8_i32_202 c0_i32_203
  let c1_i32_204 : BitVec 32 := 1#32
  let v311 : BitVec 32 := Scalar.select v310 c1_i32_204 c8_i32_202
  let v312 : BitVec 32 := Scalar.remsi v309 v311
  let c0_i32_206 : BitVec 32 := 0#32
  let v314 : BitVec 1 := Scalar.cmpi .slt v312 c0_i32_206
  let c0_i32_207 : BitVec 32 := 0#32
  let v315 : BitVec 1 := Scalar.cmpi .slt v311 c0_i32_207
  let v316 : BitVec 1 := Scalar.xori v314 v315
  let c0_i32_205 : BitVec 32 := 0#32
  let v313 : BitVec 1 := Scalar.cmpi .ne v312 c0_i32_205
  let v317 : BitVec 1 := Scalar.andi v316 v313
  let v318 : BitVec 32 := Scalar.addi v312 v311
  let v319 : BitVec 32 := Scalar.select v317 v318 v312
  let v320 : Index := Scalar.indexCast v319
  let c0_208 : Index := 0#32
  let c0_209 : Index := 0#32
  ![v320.toNat, 0, 0]
def k0_dev15 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_248 : BitVec 32 := 7#32
  let v388 : BitVec 32 := Scalar.addi v2 c7_i32_248
  let c8_i32_249 : BitVec 32 := 8#32
  let c0_i32_250 : BitVec 32 := 0#32
  let v389 : BitVec 1 := Scalar.cmpi .eq c8_i32_249 c0_i32_250
  let c1_i32_251 : BitVec 32 := 1#32
  let v390 : BitVec 32 := Scalar.select v389 c1_i32_251 c8_i32_249
  let v391 : BitVec 32 := Scalar.remsi v388 v390
  let c0_i32_253 : BitVec 32 := 0#32
  let v393 : BitVec 1 := Scalar.cmpi .slt v391 c0_i32_253
  let c0_i32_254 : BitVec 32 := 0#32
  let v394 : BitVec 1 := Scalar.cmpi .slt v390 c0_i32_254
  let v395 : BitVec 1 := Scalar.xori v393 v394
  let c0_i32_252 : BitVec 32 := 0#32
  let v392 : BitVec 1 := Scalar.cmpi .ne v391 c0_i32_252
  let v396 : BitVec 1 := Scalar.andi v395 v392
  let v397 : BitVec 32 := Scalar.addi v391 v390
  let v398 : BitVec 32 := Scalar.select v396 v397 v391
  let c1_i32_257 : BitVec 32 := 1#32
  let v405 : BitVec 32 := Scalar.muli v398 c1_i32_257
  let v406 : BitVec 32 := Scalar.addi c0_i32_258 v405
  v406.toNat
def k0_dev16 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_263 : BitVec 32 := 6#32
  let v415 : BitVec 32 := Scalar.addi v2 c6_i32_263
  let c8_i32_264 : BitVec 32 := 8#32
  let c0_i32_265 : BitVec 32 := 0#32
  let v416 : BitVec 1 := Scalar.cmpi .eq c8_i32_264 c0_i32_265
  let c1_i32_266 : BitVec 32 := 1#32
  let v417 : BitVec 32 := Scalar.select v416 c1_i32_266 c8_i32_264
  let v418 : BitVec 32 := Scalar.remsi v415 v417
  let c0_i32_268 : BitVec 32 := 0#32
  let v420 : BitVec 1 := Scalar.cmpi .slt v418 c0_i32_268
  let c0_i32_269 : BitVec 32 := 0#32
  let v421 : BitVec 1 := Scalar.cmpi .slt v417 c0_i32_269
  let v422 : BitVec 1 := Scalar.xori v420 v421
  let c0_i32_267 : BitVec 32 := 0#32
  let v419 : BitVec 1 := Scalar.cmpi .ne v418 c0_i32_267
  let v423 : BitVec 1 := Scalar.andi v422 v419
  let v424 : BitVec 32 := Scalar.addi v418 v417
  let v425 : BitVec 32 := Scalar.select v423 v424 v418
  let c1_i32_272 : BitVec 32 := 1#32
  let v432 : BitVec 32 := Scalar.muli v425 c1_i32_272
  let v433 : BitVec 32 := Scalar.addi c0_i32_273 v432
  v433.toNat
def k0_dev17 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_278 : BitVec 32 := 5#32
  let v442 : BitVec 32 := Scalar.addi v2 c5_i32_278
  let c8_i32_279 : BitVec 32 := 8#32
  let c0_i32_280 : BitVec 32 := 0#32
  let v443 : BitVec 1 := Scalar.cmpi .eq c8_i32_279 c0_i32_280
  let c1_i32_281 : BitVec 32 := 1#32
  let v444 : BitVec 32 := Scalar.select v443 c1_i32_281 c8_i32_279
  let v445 : BitVec 32 := Scalar.remsi v442 v444
  let c0_i32_283 : BitVec 32 := 0#32
  let v447 : BitVec 1 := Scalar.cmpi .slt v445 c0_i32_283
  let c0_i32_284 : BitVec 32 := 0#32
  let v448 : BitVec 1 := Scalar.cmpi .slt v444 c0_i32_284
  let v449 : BitVec 1 := Scalar.xori v447 v448
  let c0_i32_282 : BitVec 32 := 0#32
  let v446 : BitVec 1 := Scalar.cmpi .ne v445 c0_i32_282
  let v450 : BitVec 1 := Scalar.andi v449 v446
  let v451 : BitVec 32 := Scalar.addi v445 v444
  let v452 : BitVec 32 := Scalar.select v450 v451 v445
  let c1_i32_287 : BitVec 32 := 1#32
  let v459 : BitVec 32 := Scalar.muli v452 c1_i32_287
  let v460 : BitVec 32 := Scalar.addi c0_i32_288 v459
  v460.toNat
def k0_dev18 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_384 : BitVec 32 := 4#32
  let v607 : BitVec 32 := Scalar.addi v2 c4_i32_384
  let c8_i32_385 : BitVec 32 := 8#32
  let c0_i32_386 : BitVec 32 := 0#32
  let v608 : BitVec 1 := Scalar.cmpi .eq c8_i32_385 c0_i32_386
  let c1_i32_387 : BitVec 32 := 1#32
  let v609 : BitVec 32 := Scalar.select v608 c1_i32_387 c8_i32_385
  let v610 : BitVec 32 := Scalar.remsi v607 v609
  let c0_i32_389 : BitVec 32 := 0#32
  let v612 : BitVec 1 := Scalar.cmpi .slt v610 c0_i32_389
  let c0_i32_390 : BitVec 32 := 0#32
  let v613 : BitVec 1 := Scalar.cmpi .slt v609 c0_i32_390
  let v614 : BitVec 1 := Scalar.xori v612 v613
  let c0_i32_388 : BitVec 32 := 0#32
  let v611 : BitVec 1 := Scalar.cmpi .ne v610 c0_i32_388
  let v615 : BitVec 1 := Scalar.andi v614 v611
  let v616 : BitVec 32 := Scalar.addi v610 v609
  let v617 : BitVec 32 := Scalar.select v615 v616 v610
  let c1_i32_393 : BitVec 32 := 1#32
  let v624 : BitVec 32 := Scalar.muli v617 c1_i32_393
  let v625 : BitVec 32 := Scalar.addi c0_i32_394 v624
  v625.toNat
def k0_dev19 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_399 : BitVec 32 := 3#32
  let v634 : BitVec 32 := Scalar.addi v2 c3_i32_399
  let c8_i32_400 : BitVec 32 := 8#32
  let c0_i32_401 : BitVec 32 := 0#32
  let v635 : BitVec 1 := Scalar.cmpi .eq c8_i32_400 c0_i32_401
  let c1_i32_402 : BitVec 32 := 1#32
  let v636 : BitVec 32 := Scalar.select v635 c1_i32_402 c8_i32_400
  let v637 : BitVec 32 := Scalar.remsi v634 v636
  let c0_i32_404 : BitVec 32 := 0#32
  let v639 : BitVec 1 := Scalar.cmpi .slt v637 c0_i32_404
  let c0_i32_405 : BitVec 32 := 0#32
  let v640 : BitVec 1 := Scalar.cmpi .slt v636 c0_i32_405
  let v641 : BitVec 1 := Scalar.xori v639 v640
  let c0_i32_403 : BitVec 32 := 0#32
  let v638 : BitVec 1 := Scalar.cmpi .ne v637 c0_i32_403
  let v642 : BitVec 1 := Scalar.andi v641 v638
  let v643 : BitVec 32 := Scalar.addi v637 v636
  let v644 : BitVec 32 := Scalar.select v642 v643 v637
  let c1_i32_408 : BitVec 32 := 1#32
  let v651 : BitVec 32 := Scalar.muli v644 c1_i32_408
  let v652 : BitVec 32 := Scalar.addi c0_i32_409 v651
  v652.toNat
def k0_dev20 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_414 : BitVec 32 := 2#32
  let v661 : BitVec 32 := Scalar.addi v2 c2_i32_414
  let c8_i32_415 : BitVec 32 := 8#32
  let c0_i32_416 : BitVec 32 := 0#32
  let v662 : BitVec 1 := Scalar.cmpi .eq c8_i32_415 c0_i32_416
  let c1_i32_417 : BitVec 32 := 1#32
  let v663 : BitVec 32 := Scalar.select v662 c1_i32_417 c8_i32_415
  let v664 : BitVec 32 := Scalar.remsi v661 v663
  let c0_i32_419 : BitVec 32 := 0#32
  let v666 : BitVec 1 := Scalar.cmpi .slt v664 c0_i32_419
  let c0_i32_420 : BitVec 32 := 0#32
  let v667 : BitVec 1 := Scalar.cmpi .slt v663 c0_i32_420
  let v668 : BitVec 1 := Scalar.xori v666 v667
  let c0_i32_418 : BitVec 32 := 0#32
  let v665 : BitVec 1 := Scalar.cmpi .ne v664 c0_i32_418
  let v669 : BitVec 1 := Scalar.andi v668 v665
  let v670 : BitVec 32 := Scalar.addi v664 v663
  let v671 : BitVec 32 := Scalar.select v669 v670 v664
  let c1_i32_423 : BitVec 32 := 1#32
  let v678 : BitVec 32 := Scalar.muli v671 c1_i32_423
  let v679 : BitVec 32 := Scalar.addi c0_i32_424 v678
  v679.toNat
def k0_dev21 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_429 : BitVec 32 := 1#32
  let v688 : BitVec 32 := Scalar.addi v2 c1_i32_429
  let c8_i32_430 : BitVec 32 := 8#32
  let c0_i32_431 : BitVec 32 := 0#32
  let v689 : BitVec 1 := Scalar.cmpi .eq c8_i32_430 c0_i32_431
  let c1_i32_432 : BitVec 32 := 1#32
  let v690 : BitVec 32 := Scalar.select v689 c1_i32_432 c8_i32_430
  let v691 : BitVec 32 := Scalar.remsi v688 v690
  let c0_i32_434 : BitVec 32 := 0#32
  let v693 : BitVec 1 := Scalar.cmpi .slt v691 c0_i32_434
  let c0_i32_435 : BitVec 32 := 0#32
  let v694 : BitVec 1 := Scalar.cmpi .slt v690 c0_i32_435
  let v695 : BitVec 1 := Scalar.xori v693 v694
  let c0_i32_433 : BitVec 32 := 0#32
  let v692 : BitVec 1 := Scalar.cmpi .ne v691 c0_i32_433
  let v696 : BitVec 1 := Scalar.andi v695 v692
  let v697 : BitVec 32 := Scalar.addi v691 v690
  let v698 : BitVec 32 := Scalar.select v696 v697 v691
  let c1_i32_438 : BitVec 32 := 1#32
  let v705 : BitVec 32 := Scalar.muli v698 c1_i32_438
  let v706 : BitVec 32 := Scalar.addi c0_i32_439 v705
  v706.toNat
def k0_dev22 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_621 : BitVec 32 := 1#32
  let v973 : BitVec 32 := Scalar.addi v2 c1_i32_621
  let c8_i32_622 : BitVec 32 := 8#32
  let c0_i32_623 : BitVec 32 := 0#32
  let v974 : BitVec 1 := Scalar.cmpi .eq c8_i32_622 c0_i32_623
  let c1_i32_624 : BitVec 32 := 1#32
  let v975 : BitVec 32 := Scalar.select v974 c1_i32_624 c8_i32_622
  let v976 : BitVec 32 := Scalar.remsi v973 v975
  let c0_i32_626 : BitVec 32 := 0#32
  let v978 : BitVec 1 := Scalar.cmpi .slt v976 c0_i32_626
  let c0_i32_627 : BitVec 32 := 0#32
  let v979 : BitVec 1 := Scalar.cmpi .slt v975 c0_i32_627
  let v980 : BitVec 1 := Scalar.xori v978 v979
  let c0_i32_625 : BitVec 32 := 0#32
  let v977 : BitVec 1 := Scalar.cmpi .ne v976 c0_i32_625
  let v981 : BitVec 1 := Scalar.andi v980 v977
  let v982 : BitVec 32 := Scalar.addi v976 v975
  let v983 : BitVec 32 := Scalar.select v981 v982 v976
  let c1_i32_628 : BitVec 32 := 1#32
  let v984 : BitVec 32 := Scalar.muli v983 c1_i32_628
  let v985 : BitVec 32 := Scalar.addi c0_i32_629 v984
  v985.toNat
def k0_dev23 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_634 : BitVec 32 := 2#32
  let v994 : BitVec 32 := Scalar.addi v2 c2_i32_634
  let c8_i32_635 : BitVec 32 := 8#32
  let c0_i32_636 : BitVec 32 := 0#32
  let v995 : BitVec 1 := Scalar.cmpi .eq c8_i32_635 c0_i32_636
  let c1_i32_637 : BitVec 32 := 1#32
  let v996 : BitVec 32 := Scalar.select v995 c1_i32_637 c8_i32_635
  let v997 : BitVec 32 := Scalar.remsi v994 v996
  let c0_i32_639 : BitVec 32 := 0#32
  let v999 : BitVec 1 := Scalar.cmpi .slt v997 c0_i32_639
  let c0_i32_640 : BitVec 32 := 0#32
  let v1000 : BitVec 1 := Scalar.cmpi .slt v996 c0_i32_640
  let v1001 : BitVec 1 := Scalar.xori v999 v1000
  let c0_i32_638 : BitVec 32 := 0#32
  let v998 : BitVec 1 := Scalar.cmpi .ne v997 c0_i32_638
  let v1002 : BitVec 1 := Scalar.andi v1001 v998
  let v1003 : BitVec 32 := Scalar.addi v997 v996
  let v1004 : BitVec 32 := Scalar.select v1002 v1003 v997
  let c1_i32_641 : BitVec 32 := 1#32
  let v1005 : BitVec 32 := Scalar.muli v1004 c1_i32_641
  let v1006 : BitVec 32 := Scalar.addi c0_i32_642 v1005
  v1006.toNat
def k0_dev24 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_647 : BitVec 32 := 3#32
  let v1015 : BitVec 32 := Scalar.addi v2 c3_i32_647
  let c8_i32_648 : BitVec 32 := 8#32
  let c0_i32_649 : BitVec 32 := 0#32
  let v1016 : BitVec 1 := Scalar.cmpi .eq c8_i32_648 c0_i32_649
  let c1_i32_650 : BitVec 32 := 1#32
  let v1017 : BitVec 32 := Scalar.select v1016 c1_i32_650 c8_i32_648
  let v1018 : BitVec 32 := Scalar.remsi v1015 v1017
  let c0_i32_652 : BitVec 32 := 0#32
  let v1020 : BitVec 1 := Scalar.cmpi .slt v1018 c0_i32_652
  let c0_i32_653 : BitVec 32 := 0#32
  let v1021 : BitVec 1 := Scalar.cmpi .slt v1017 c0_i32_653
  let v1022 : BitVec 1 := Scalar.xori v1020 v1021
  let c0_i32_651 : BitVec 32 := 0#32
  let v1019 : BitVec 1 := Scalar.cmpi .ne v1018 c0_i32_651
  let v1023 : BitVec 1 := Scalar.andi v1022 v1019
  let v1024 : BitVec 32 := Scalar.addi v1018 v1017
  let v1025 : BitVec 32 := Scalar.select v1023 v1024 v1018
  let c1_i32_654 : BitVec 32 := 1#32
  let v1026 : BitVec 32 := Scalar.muli v1025 c1_i32_654
  let v1027 : BitVec 32 := Scalar.addi c0_i32_655 v1026
  v1027.toNat
def k0_dev25 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_660 : BitVec 32 := 4#32
  let v1036 : BitVec 32 := Scalar.addi v2 c4_i32_660
  let c8_i32_661 : BitVec 32 := 8#32
  let c0_i32_662 : BitVec 32 := 0#32
  let v1037 : BitVec 1 := Scalar.cmpi .eq c8_i32_661 c0_i32_662
  let c1_i32_663 : BitVec 32 := 1#32
  let v1038 : BitVec 32 := Scalar.select v1037 c1_i32_663 c8_i32_661
  let v1039 : BitVec 32 := Scalar.remsi v1036 v1038
  let c0_i32_665 : BitVec 32 := 0#32
  let v1041 : BitVec 1 := Scalar.cmpi .slt v1039 c0_i32_665
  let c0_i32_666 : BitVec 32 := 0#32
  let v1042 : BitVec 1 := Scalar.cmpi .slt v1038 c0_i32_666
  let v1043 : BitVec 1 := Scalar.xori v1041 v1042
  let c0_i32_664 : BitVec 32 := 0#32
  let v1040 : BitVec 1 := Scalar.cmpi .ne v1039 c0_i32_664
  let v1044 : BitVec 1 := Scalar.andi v1043 v1040
  let v1045 : BitVec 32 := Scalar.addi v1039 v1038
  let v1046 : BitVec 32 := Scalar.select v1044 v1045 v1039
  let c1_i32_667 : BitVec 32 := 1#32
  let v1047 : BitVec 32 := Scalar.muli v1046 c1_i32_667
  let v1048 : BitVec 32 := Scalar.addi c0_i32_668 v1047
  v1048.toNat
def k0_dev26 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_673 : BitVec 32 := 5#32
  let v1057 : BitVec 32 := Scalar.addi v2 c5_i32_673
  let c8_i32_674 : BitVec 32 := 8#32
  let c0_i32_675 : BitVec 32 := 0#32
  let v1058 : BitVec 1 := Scalar.cmpi .eq c8_i32_674 c0_i32_675
  let c1_i32_676 : BitVec 32 := 1#32
  let v1059 : BitVec 32 := Scalar.select v1058 c1_i32_676 c8_i32_674
  let v1060 : BitVec 32 := Scalar.remsi v1057 v1059
  let c0_i32_678 : BitVec 32 := 0#32
  let v1062 : BitVec 1 := Scalar.cmpi .slt v1060 c0_i32_678
  let c0_i32_679 : BitVec 32 := 0#32
  let v1063 : BitVec 1 := Scalar.cmpi .slt v1059 c0_i32_679
  let v1064 : BitVec 1 := Scalar.xori v1062 v1063
  let c0_i32_677 : BitVec 32 := 0#32
  let v1061 : BitVec 1 := Scalar.cmpi .ne v1060 c0_i32_677
  let v1065 : BitVec 1 := Scalar.andi v1064 v1061
  let v1066 : BitVec 32 := Scalar.addi v1060 v1059
  let v1067 : BitVec 32 := Scalar.select v1065 v1066 v1060
  let c1_i32_680 : BitVec 32 := 1#32
  let v1068 : BitVec 32 := Scalar.muli v1067 c1_i32_680
  let v1069 : BitVec 32 := Scalar.addi c0_i32_681 v1068
  v1069.toNat
def k0_dev27 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_686 : BitVec 32 := 6#32
  let v1078 : BitVec 32 := Scalar.addi v2 c6_i32_686
  let c8_i32_687 : BitVec 32 := 8#32
  let c0_i32_688 : BitVec 32 := 0#32
  let v1079 : BitVec 1 := Scalar.cmpi .eq c8_i32_687 c0_i32_688
  let c1_i32_689 : BitVec 32 := 1#32
  let v1080 : BitVec 32 := Scalar.select v1079 c1_i32_689 c8_i32_687
  let v1081 : BitVec 32 := Scalar.remsi v1078 v1080
  let c0_i32_691 : BitVec 32 := 0#32
  let v1083 : BitVec 1 := Scalar.cmpi .slt v1081 c0_i32_691
  let c0_i32_692 : BitVec 32 := 0#32
  let v1084 : BitVec 1 := Scalar.cmpi .slt v1080 c0_i32_692
  let v1085 : BitVec 1 := Scalar.xori v1083 v1084
  let c0_i32_690 : BitVec 32 := 0#32
  let v1082 : BitVec 1 := Scalar.cmpi .ne v1081 c0_i32_690
  let v1086 : BitVec 1 := Scalar.andi v1085 v1082
  let v1087 : BitVec 32 := Scalar.addi v1081 v1080
  let v1088 : BitVec 32 := Scalar.select v1086 v1087 v1081
  let c1_i32_693 : BitVec 32 := 1#32
  let v1089 : BitVec 32 := Scalar.muli v1088 c1_i32_693
  let v1090 : BitVec 32 := Scalar.addi c0_i32_694 v1089
  v1090.toNat
def k0_dev28 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_699 : BitVec 32 := 7#32
  let v1099 : BitVec 32 := Scalar.addi v2 c7_i32_699
  let c8_i32_700 : BitVec 32 := 8#32
  let c0_i32_701 : BitVec 32 := 0#32
  let v1100 : BitVec 1 := Scalar.cmpi .eq c8_i32_700 c0_i32_701
  let c1_i32_702 : BitVec 32 := 1#32
  let v1101 : BitVec 32 := Scalar.select v1100 c1_i32_702 c8_i32_700
  let v1102 : BitVec 32 := Scalar.remsi v1099 v1101
  let c0_i32_704 : BitVec 32 := 0#32
  let v1104 : BitVec 1 := Scalar.cmpi .slt v1102 c0_i32_704
  let c0_i32_705 : BitVec 32 := 0#32
  let v1105 : BitVec 1 := Scalar.cmpi .slt v1101 c0_i32_705
  let v1106 : BitVec 1 := Scalar.xori v1104 v1105
  let c0_i32_703 : BitVec 32 := 0#32
  let v1103 : BitVec 1 := Scalar.cmpi .ne v1102 c0_i32_703
  let v1107 : BitVec 1 := Scalar.andi v1106 v1103
  let v1108 : BitVec 32 := Scalar.addi v1102 v1101
  let v1109 : BitVec 32 := Scalar.select v1107 v1108 v1102
  let c1_i32_706 : BitVec 32 := 1#32
  let v1110 : BitVec 32 := Scalar.muli v1109 c1_i32_706
  let v1111 : BitVec 32 := Scalar.addi c0_i32_707 v1110
  v1111.toNat
def k0_dev29 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_803 : BitVec 32 := 7#32
  let v1260 : BitVec 32 := Scalar.addi v2 c7_i32_803
  let c8_i32_804 : BitVec 32 := 8#32
  let c0_i32_805 : BitVec 32 := 0#32
  let v1261 : BitVec 1 := Scalar.cmpi .eq c8_i32_804 c0_i32_805
  let c1_i32_806 : BitVec 32 := 1#32
  let v1262 : BitVec 32 := Scalar.select v1261 c1_i32_806 c8_i32_804
  let v1263 : BitVec 32 := Scalar.remsi v1260 v1262
  let c0_i32_808 : BitVec 32 := 0#32
  let v1265 : BitVec 1 := Scalar.cmpi .slt v1263 c0_i32_808
  let c0_i32_809 : BitVec 32 := 0#32
  let v1266 : BitVec 1 := Scalar.cmpi .slt v1262 c0_i32_809
  let v1267 : BitVec 1 := Scalar.xori v1265 v1266
  let c0_i32_807 : BitVec 32 := 0#32
  let v1264 : BitVec 1 := Scalar.cmpi .ne v1263 c0_i32_807
  let v1268 : BitVec 1 := Scalar.andi v1267 v1264
  let v1269 : BitVec 32 := Scalar.addi v1263 v1262
  let v1270 : BitVec 32 := Scalar.select v1268 v1269 v1263
  let c1_i32_812 : BitVec 32 := 1#32
  let v1277 : BitVec 32 := Scalar.muli v1270 c1_i32_812
  let v1278 : BitVec 32 := Scalar.addi c0_i32_813 v1277
  v1278.toNat
def k0_dev30 (d0 : Dev nD) : Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_818 : BitVec 32 := 6#32
  let v1287 : BitVec 32 := Scalar.addi v2 c6_i32_818
  let c8_i32_819 : BitVec 32 := 8#32
  let c0_i32_820 : BitVec 32 := 0#32
  let v1288 : BitVec 1 := Scalar.cmpi .eq c8_i32_819 c0_i32_820
  let c1_i32_821 : BitVec 32 := 1#32
  let v1289 : BitVec 32 := Scalar.select v1288 c1_i32_821 c8_i32_819
  let v1290 : BitVec 32 := Scalar.remsi v1287 v1289
  let c0_i32_823 : BitVec 32 := 0#32
  let v1292 : BitVec 1 := Scalar.cmpi .slt v1290 c0_i32_823
  let c0_i32_824 : BitVec 32 := 0#32
  let v1293 : BitVec 1 := Scalar.cmpi .slt v1289 c0_i32_824
  let v1294 : BitVec 1 := Scalar.xori v1292 v1293
  let c0_i32_822 : BitVec 32 := 0#32
  let v1291 : BitVec 1 := Scalar.cmpi .ne v1290 c0_i32_822
  let v1295 : BitVec 1 := Scalar.andi v1294 v1291
  let v1296 : BitVec 32 := Scalar.addi v1290 v1289
  let v1297 : BitVec 32 := Scalar.select v1295 v1296 v1290
  let c1_i32_827 : BitVec 32 := 1#32
  let v1304 : BitVec 32 := Scalar.muli v1297 c1_i32_827
  let v1305 : BitVec 32 := Scalar.addi c0_i32_828 v1304
  v1305.toNat
def k0_dev31 (d0 : Dev nD) : Nat :=
  let c0_i32_843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_833 : BitVec 32 := 5#32
  let v1314 : BitVec 32 := Scalar.addi v2 c5_i32_833
  let c8_i32_834 : BitVec 32 := 8#32
  let c0_i32_835 : BitVec 32 := 0#32
  let v1315 : BitVec 1 := Scalar.cmpi .eq c8_i32_834 c0_i32_835
  let c1_i32_836 : BitVec 32 := 1#32
  let v1316 : BitVec 32 := Scalar.select v1315 c1_i32_836 c8_i32_834
  let v1317 : BitVec 32 := Scalar.remsi v1314 v1316
  let c0_i32_838 : BitVec 32 := 0#32
  let v1319 : BitVec 1 := Scalar.cmpi .slt v1317 c0_i32_838
  let c0_i32_839 : BitVec 32 := 0#32
  let v1320 : BitVec 1 := Scalar.cmpi .slt v1316 c0_i32_839
  let v1321 : BitVec 1 := Scalar.xori v1319 v1320
  let c0_i32_837 : BitVec 32 := 0#32
  let v1318 : BitVec 1 := Scalar.cmpi .ne v1317 c0_i32_837
  let v1322 : BitVec 1 := Scalar.andi v1321 v1318
  let v1323 : BitVec 32 := Scalar.addi v1317 v1316
  let v1324 : BitVec 32 := Scalar.select v1322 v1323 v1317
  let c1_i32_842 : BitVec 32 := 1#32
  let v1331 : BitVec 32 := Scalar.muli v1324 c1_i32_842
  let v1332 : BitVec 32 := Scalar.addi c0_i32_843 v1331
  v1332.toNat
def k0_dev32 (d0 : Dev nD) : Nat :=
  let c0_i32_949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_939 : BitVec 32 := 4#32
  let v1479 : BitVec 32 := Scalar.addi v2 c4_i32_939
  let c8_i32_940 : BitVec 32 := 8#32
  let c0_i32_941 : BitVec 32 := 0#32
  let v1480 : BitVec 1 := Scalar.cmpi .eq c8_i32_940 c0_i32_941
  let c1_i32_942 : BitVec 32 := 1#32
  let v1481 : BitVec 32 := Scalar.select v1480 c1_i32_942 c8_i32_940
  let v1482 : BitVec 32 := Scalar.remsi v1479 v1481
  let c0_i32_944 : BitVec 32 := 0#32
  let v1484 : BitVec 1 := Scalar.cmpi .slt v1482 c0_i32_944
  let c0_i32_945 : BitVec 32 := 0#32
  let v1485 : BitVec 1 := Scalar.cmpi .slt v1481 c0_i32_945
  let v1486 : BitVec 1 := Scalar.xori v1484 v1485
  let c0_i32_943 : BitVec 32 := 0#32
  let v1483 : BitVec 1 := Scalar.cmpi .ne v1482 c0_i32_943
  let v1487 : BitVec 1 := Scalar.andi v1486 v1483
  let v1488 : BitVec 32 := Scalar.addi v1482 v1481
  let v1489 : BitVec 32 := Scalar.select v1487 v1488 v1482
  let c1_i32_948 : BitVec 32 := 1#32
  let v1496 : BitVec 32 := Scalar.muli v1489 c1_i32_948
  let v1497 : BitVec 32 := Scalar.addi c0_i32_949 v1496
  v1497.toNat
def k0_dev33 (d0 : Dev nD) : Nat :=
  let c0_i32_964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_954 : BitVec 32 := 3#32
  let v1506 : BitVec 32 := Scalar.addi v2 c3_i32_954
  let c8_i32_955 : BitVec 32 := 8#32
  let c0_i32_956 : BitVec 32 := 0#32
  let v1507 : BitVec 1 := Scalar.cmpi .eq c8_i32_955 c0_i32_956
  let c1_i32_957 : BitVec 32 := 1#32
  let v1508 : BitVec 32 := Scalar.select v1507 c1_i32_957 c8_i32_955
  let v1509 : BitVec 32 := Scalar.remsi v1506 v1508
  let c0_i32_959 : BitVec 32 := 0#32
  let v1511 : BitVec 1 := Scalar.cmpi .slt v1509 c0_i32_959
  let c0_i32_960 : BitVec 32 := 0#32
  let v1512 : BitVec 1 := Scalar.cmpi .slt v1508 c0_i32_960
  let v1513 : BitVec 1 := Scalar.xori v1511 v1512
  let c0_i32_958 : BitVec 32 := 0#32
  let v1510 : BitVec 1 := Scalar.cmpi .ne v1509 c0_i32_958
  let v1514 : BitVec 1 := Scalar.andi v1513 v1510
  let v1515 : BitVec 32 := Scalar.addi v1509 v1508
  let v1516 : BitVec 32 := Scalar.select v1514 v1515 v1509
  let c1_i32_963 : BitVec 32 := 1#32
  let v1523 : BitVec 32 := Scalar.muli v1516 c1_i32_963
  let v1524 : BitVec 32 := Scalar.addi c0_i32_964 v1523
  v1524.toNat
def k0_dev34 (d0 : Dev nD) : Nat :=
  let c0_i32_979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_969 : BitVec 32 := 2#32
  let v1533 : BitVec 32 := Scalar.addi v2 c2_i32_969
  let c8_i32_970 : BitVec 32 := 8#32
  let c0_i32_971 : BitVec 32 := 0#32
  let v1534 : BitVec 1 := Scalar.cmpi .eq c8_i32_970 c0_i32_971
  let c1_i32_972 : BitVec 32 := 1#32
  let v1535 : BitVec 32 := Scalar.select v1534 c1_i32_972 c8_i32_970
  let v1536 : BitVec 32 := Scalar.remsi v1533 v1535
  let c0_i32_974 : BitVec 32 := 0#32
  let v1538 : BitVec 1 := Scalar.cmpi .slt v1536 c0_i32_974
  let c0_i32_975 : BitVec 32 := 0#32
  let v1539 : BitVec 1 := Scalar.cmpi .slt v1535 c0_i32_975
  let v1540 : BitVec 1 := Scalar.xori v1538 v1539
  let c0_i32_973 : BitVec 32 := 0#32
  let v1537 : BitVec 1 := Scalar.cmpi .ne v1536 c0_i32_973
  let v1541 : BitVec 1 := Scalar.andi v1540 v1537
  let v1542 : BitVec 32 := Scalar.addi v1536 v1535
  let v1543 : BitVec 32 := Scalar.select v1541 v1542 v1536
  let c1_i32_978 : BitVec 32 := 1#32
  let v1550 : BitVec 32 := Scalar.muli v1543 c1_i32_978
  let v1551 : BitVec 32 := Scalar.addi c0_i32_979 v1550
  v1551.toNat
def k0_dev35 (d0 : Dev nD) : Nat :=
  let c0_i32_994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_984 : BitVec 32 := 1#32
  let v1560 : BitVec 32 := Scalar.addi v2 c1_i32_984
  let c8_i32_985 : BitVec 32 := 8#32
  let c0_i32_986 : BitVec 32 := 0#32
  let v1561 : BitVec 1 := Scalar.cmpi .eq c8_i32_985 c0_i32_986
  let c1_i32_987 : BitVec 32 := 1#32
  let v1562 : BitVec 32 := Scalar.select v1561 c1_i32_987 c8_i32_985
  let v1563 : BitVec 32 := Scalar.remsi v1560 v1562
  let c0_i32_989 : BitVec 32 := 0#32
  let v1565 : BitVec 1 := Scalar.cmpi .slt v1563 c0_i32_989
  let c0_i32_990 : BitVec 32 := 0#32
  let v1566 : BitVec 1 := Scalar.cmpi .slt v1562 c0_i32_990
  let v1567 : BitVec 1 := Scalar.xori v1565 v1566
  let c0_i32_988 : BitVec 32 := 0#32
  let v1564 : BitVec 1 := Scalar.cmpi .ne v1563 c0_i32_988
  let v1568 : BitVec 1 := Scalar.andi v1567 v1564
  let v1569 : BitVec 32 := Scalar.addi v1563 v1562
  let v1570 : BitVec 32 := Scalar.select v1568 v1569 v1563
  let c1_i32_993 : BitVec 32 := 1#32
  let v1577 : BitVec 32 := Scalar.muli v1570 c1_i32_993
  let v1578 : BitVec 32 := Scalar.addi c0_i32_994 v1577
  v1578.toNat
def k0_dev36 (d0 : Dev nD) : Nat :=
  let c0_i32_1184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1176 : BitVec 32 := 1#32
  let v1845 : BitVec 32 := Scalar.addi v2 c1_i32_1176
  let c8_i32_1177 : BitVec 32 := 8#32
  let c0_i32_1178 : BitVec 32 := 0#32
  let v1846 : BitVec 1 := Scalar.cmpi .eq c8_i32_1177 c0_i32_1178
  let c1_i32_1179 : BitVec 32 := 1#32
  let v1847 : BitVec 32 := Scalar.select v1846 c1_i32_1179 c8_i32_1177
  let v1848 : BitVec 32 := Scalar.remsi v1845 v1847
  let c0_i32_1181 : BitVec 32 := 0#32
  let v1850 : BitVec 1 := Scalar.cmpi .slt v1848 c0_i32_1181
  let c0_i32_1182 : BitVec 32 := 0#32
  let v1851 : BitVec 1 := Scalar.cmpi .slt v1847 c0_i32_1182
  let v1852 : BitVec 1 := Scalar.xori v1850 v1851
  let c0_i32_1180 : BitVec 32 := 0#32
  let v1849 : BitVec 1 := Scalar.cmpi .ne v1848 c0_i32_1180
  let v1853 : BitVec 1 := Scalar.andi v1852 v1849
  let v1854 : BitVec 32 := Scalar.addi v1848 v1847
  let v1855 : BitVec 32 := Scalar.select v1853 v1854 v1848
  let c1_i32_1183 : BitVec 32 := 1#32
  let v1856 : BitVec 32 := Scalar.muli v1855 c1_i32_1183
  let v1857 : BitVec 32 := Scalar.addi c0_i32_1184 v1856
  v1857.toNat
def k0_dev37 (d0 : Dev nD) : Nat :=
  let c0_i32_1197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1189 : BitVec 32 := 2#32
  let v1866 : BitVec 32 := Scalar.addi v2 c2_i32_1189
  let c8_i32_1190 : BitVec 32 := 8#32
  let c0_i32_1191 : BitVec 32 := 0#32
  let v1867 : BitVec 1 := Scalar.cmpi .eq c8_i32_1190 c0_i32_1191
  let c1_i32_1192 : BitVec 32 := 1#32
  let v1868 : BitVec 32 := Scalar.select v1867 c1_i32_1192 c8_i32_1190
  let v1869 : BitVec 32 := Scalar.remsi v1866 v1868
  let c0_i32_1194 : BitVec 32 := 0#32
  let v1871 : BitVec 1 := Scalar.cmpi .slt v1869 c0_i32_1194
  let c0_i32_1195 : BitVec 32 := 0#32
  let v1872 : BitVec 1 := Scalar.cmpi .slt v1868 c0_i32_1195
  let v1873 : BitVec 1 := Scalar.xori v1871 v1872
  let c0_i32_1193 : BitVec 32 := 0#32
  let v1870 : BitVec 1 := Scalar.cmpi .ne v1869 c0_i32_1193
  let v1874 : BitVec 1 := Scalar.andi v1873 v1870
  let v1875 : BitVec 32 := Scalar.addi v1869 v1868
  let v1876 : BitVec 32 := Scalar.select v1874 v1875 v1869
  let c1_i32_1196 : BitVec 32 := 1#32
  let v1877 : BitVec 32 := Scalar.muli v1876 c1_i32_1196
  let v1878 : BitVec 32 := Scalar.addi c0_i32_1197 v1877
  v1878.toNat
def k0_dev38 (d0 : Dev nD) : Nat :=
  let c0_i32_1210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1202 : BitVec 32 := 3#32
  let v1887 : BitVec 32 := Scalar.addi v2 c3_i32_1202
  let c8_i32_1203 : BitVec 32 := 8#32
  let c0_i32_1204 : BitVec 32 := 0#32
  let v1888 : BitVec 1 := Scalar.cmpi .eq c8_i32_1203 c0_i32_1204
  let c1_i32_1205 : BitVec 32 := 1#32
  let v1889 : BitVec 32 := Scalar.select v1888 c1_i32_1205 c8_i32_1203
  let v1890 : BitVec 32 := Scalar.remsi v1887 v1889
  let c0_i32_1207 : BitVec 32 := 0#32
  let v1892 : BitVec 1 := Scalar.cmpi .slt v1890 c0_i32_1207
  let c0_i32_1208 : BitVec 32 := 0#32
  let v1893 : BitVec 1 := Scalar.cmpi .slt v1889 c0_i32_1208
  let v1894 : BitVec 1 := Scalar.xori v1892 v1893
  let c0_i32_1206 : BitVec 32 := 0#32
  let v1891 : BitVec 1 := Scalar.cmpi .ne v1890 c0_i32_1206
  let v1895 : BitVec 1 := Scalar.andi v1894 v1891
  let v1896 : BitVec 32 := Scalar.addi v1890 v1889
  let v1897 : BitVec 32 := Scalar.select v1895 v1896 v1890
  let c1_i32_1209 : BitVec 32 := 1#32
  let v1898 : BitVec 32 := Scalar.muli v1897 c1_i32_1209
  let v1899 : BitVec 32 := Scalar.addi c0_i32_1210 v1898
  v1899.toNat
def k0_dev39 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1215 : BitVec 32 := 4#32
  let v1908 : BitVec 32 := Scalar.addi v2 c4_i32_1215
  let c8_i32_1216 : BitVec 32 := 8#32
  let c0_i32_1217 : BitVec 32 := 0#32
  let v1909 : BitVec 1 := Scalar.cmpi .eq c8_i32_1216 c0_i32_1217
  let c1_i32_1218 : BitVec 32 := 1#32
  let v1910 : BitVec 32 := Scalar.select v1909 c1_i32_1218 c8_i32_1216
  let v1911 : BitVec 32 := Scalar.remsi v1908 v1910
  let c0_i32_1220 : BitVec 32 := 0#32
  let v1913 : BitVec 1 := Scalar.cmpi .slt v1911 c0_i32_1220
  let c0_i32_1221 : BitVec 32 := 0#32
  let v1914 : BitVec 1 := Scalar.cmpi .slt v1910 c0_i32_1221
  let v1915 : BitVec 1 := Scalar.xori v1913 v1914
  let c0_i32_1219 : BitVec 32 := 0#32
  let v1912 : BitVec 1 := Scalar.cmpi .ne v1911 c0_i32_1219
  let v1916 : BitVec 1 := Scalar.andi v1915 v1912
  let v1917 : BitVec 32 := Scalar.addi v1911 v1910
  let v1918 : BitVec 32 := Scalar.select v1916 v1917 v1911
  let c1_i32_1222 : BitVec 32 := 1#32
  let v1919 : BitVec 32 := Scalar.muli v1918 c1_i32_1222
  let v1920 : BitVec 32 := Scalar.addi c0_i32_1223 v1919
  v1920.toNat
def k0_dev40 (d0 : Dev nD) : Nat :=
  let c0_i32_1236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1228 : BitVec 32 := 5#32
  let v1929 : BitVec 32 := Scalar.addi v2 c5_i32_1228
  let c8_i32_1229 : BitVec 32 := 8#32
  let c0_i32_1230 : BitVec 32 := 0#32
  let v1930 : BitVec 1 := Scalar.cmpi .eq c8_i32_1229 c0_i32_1230
  let c1_i32_1231 : BitVec 32 := 1#32
  let v1931 : BitVec 32 := Scalar.select v1930 c1_i32_1231 c8_i32_1229
  let v1932 : BitVec 32 := Scalar.remsi v1929 v1931
  let c0_i32_1233 : BitVec 32 := 0#32
  let v1934 : BitVec 1 := Scalar.cmpi .slt v1932 c0_i32_1233
  let c0_i32_1234 : BitVec 32 := 0#32
  let v1935 : BitVec 1 := Scalar.cmpi .slt v1931 c0_i32_1234
  let v1936 : BitVec 1 := Scalar.xori v1934 v1935
  let c0_i32_1232 : BitVec 32 := 0#32
  let v1933 : BitVec 1 := Scalar.cmpi .ne v1932 c0_i32_1232
  let v1937 : BitVec 1 := Scalar.andi v1936 v1933
  let v1938 : BitVec 32 := Scalar.addi v1932 v1931
  let v1939 : BitVec 32 := Scalar.select v1937 v1938 v1932
  let c1_i32_1235 : BitVec 32 := 1#32
  let v1940 : BitVec 32 := Scalar.muli v1939 c1_i32_1235
  let v1941 : BitVec 32 := Scalar.addi c0_i32_1236 v1940
  v1941.toNat
def k0_dev41 (d0 : Dev nD) : Nat :=
  let c0_i32_1249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1241 : BitVec 32 := 6#32
  let v1950 : BitVec 32 := Scalar.addi v2 c6_i32_1241
  let c8_i32_1242 : BitVec 32 := 8#32
  let c0_i32_1243 : BitVec 32 := 0#32
  let v1951 : BitVec 1 := Scalar.cmpi .eq c8_i32_1242 c0_i32_1243
  let c1_i32_1244 : BitVec 32 := 1#32
  let v1952 : BitVec 32 := Scalar.select v1951 c1_i32_1244 c8_i32_1242
  let v1953 : BitVec 32 := Scalar.remsi v1950 v1952
  let c0_i32_1246 : BitVec 32 := 0#32
  let v1955 : BitVec 1 := Scalar.cmpi .slt v1953 c0_i32_1246
  let c0_i32_1247 : BitVec 32 := 0#32
  let v1956 : BitVec 1 := Scalar.cmpi .slt v1952 c0_i32_1247
  let v1957 : BitVec 1 := Scalar.xori v1955 v1956
  let c0_i32_1245 : BitVec 32 := 0#32
  let v1954 : BitVec 1 := Scalar.cmpi .ne v1953 c0_i32_1245
  let v1958 : BitVec 1 := Scalar.andi v1957 v1954
  let v1959 : BitVec 32 := Scalar.addi v1953 v1952
  let v1960 : BitVec 32 := Scalar.select v1958 v1959 v1953
  let c1_i32_1248 : BitVec 32 := 1#32
  let v1961 : BitVec 32 := Scalar.muli v1960 c1_i32_1248
  let v1962 : BitVec 32 := Scalar.addi c0_i32_1249 v1961
  v1962.toNat
def k0_dev42 (d0 : Dev nD) : Nat :=
  let c0_i32_1262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1254 : BitVec 32 := 7#32
  let v1971 : BitVec 32 := Scalar.addi v2 c7_i32_1254
  let c8_i32_1255 : BitVec 32 := 8#32
  let c0_i32_1256 : BitVec 32 := 0#32
  let v1972 : BitVec 1 := Scalar.cmpi .eq c8_i32_1255 c0_i32_1256
  let c1_i32_1257 : BitVec 32 := 1#32
  let v1973 : BitVec 32 := Scalar.select v1972 c1_i32_1257 c8_i32_1255
  let v1974 : BitVec 32 := Scalar.remsi v1971 v1973
  let c0_i32_1259 : BitVec 32 := 0#32
  let v1976 : BitVec 1 := Scalar.cmpi .slt v1974 c0_i32_1259
  let c0_i32_1260 : BitVec 32 := 0#32
  let v1977 : BitVec 1 := Scalar.cmpi .slt v1973 c0_i32_1260
  let v1978 : BitVec 1 := Scalar.xori v1976 v1977
  let c0_i32_1258 : BitVec 32 := 0#32
  let v1975 : BitVec 1 := Scalar.cmpi .ne v1974 c0_i32_1258
  let v1979 : BitVec 1 := Scalar.andi v1978 v1975
  let v1980 : BitVec 32 := Scalar.addi v1974 v1973
  let v1981 : BitVec 32 := Scalar.select v1979 v1980 v1974
  let c1_i32_1261 : BitVec 32 := 1#32
  let v1982 : BitVec 32 := Scalar.muli v1981 c1_i32_1261
  let v1983 : BitVec 32 := Scalar.addi c0_i32_1262 v1982
  v1983.toNat
def k0_dev43 (d0 : Dev nD) : Nat :=
  let c0_i32_1368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1358 : BitVec 32 := 7#32
  let v2132 : BitVec 32 := Scalar.addi v2 c7_i32_1358
  let c8_i32_1359 : BitVec 32 := 8#32
  let c0_i32_1360 : BitVec 32 := 0#32
  let v2133 : BitVec 1 := Scalar.cmpi .eq c8_i32_1359 c0_i32_1360
  let c1_i32_1361 : BitVec 32 := 1#32
  let v2134 : BitVec 32 := Scalar.select v2133 c1_i32_1361 c8_i32_1359
  let v2135 : BitVec 32 := Scalar.remsi v2132 v2134
  let c0_i32_1363 : BitVec 32 := 0#32
  let v2137 : BitVec 1 := Scalar.cmpi .slt v2135 c0_i32_1363
  let c0_i32_1364 : BitVec 32 := 0#32
  let v2138 : BitVec 1 := Scalar.cmpi .slt v2134 c0_i32_1364
  let v2139 : BitVec 1 := Scalar.xori v2137 v2138
  let c0_i32_1362 : BitVec 32 := 0#32
  let v2136 : BitVec 1 := Scalar.cmpi .ne v2135 c0_i32_1362
  let v2140 : BitVec 1 := Scalar.andi v2139 v2136
  let v2141 : BitVec 32 := Scalar.addi v2135 v2134
  let v2142 : BitVec 32 := Scalar.select v2140 v2141 v2135
  let c1_i32_1367 : BitVec 32 := 1#32
  let v2149 : BitVec 32 := Scalar.muli v2142 c1_i32_1367
  let v2150 : BitVec 32 := Scalar.addi c0_i32_1368 v2149
  v2150.toNat
def k0_dev44 (d0 : Dev nD) : Nat :=
  let c0_i32_1383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1373 : BitVec 32 := 6#32
  let v2159 : BitVec 32 := Scalar.addi v2 c6_i32_1373
  let c8_i32_1374 : BitVec 32 := 8#32
  let c0_i32_1375 : BitVec 32 := 0#32
  let v2160 : BitVec 1 := Scalar.cmpi .eq c8_i32_1374 c0_i32_1375
  let c1_i32_1376 : BitVec 32 := 1#32
  let v2161 : BitVec 32 := Scalar.select v2160 c1_i32_1376 c8_i32_1374
  let v2162 : BitVec 32 := Scalar.remsi v2159 v2161
  let c0_i32_1378 : BitVec 32 := 0#32
  let v2164 : BitVec 1 := Scalar.cmpi .slt v2162 c0_i32_1378
  let c0_i32_1379 : BitVec 32 := 0#32
  let v2165 : BitVec 1 := Scalar.cmpi .slt v2161 c0_i32_1379
  let v2166 : BitVec 1 := Scalar.xori v2164 v2165
  let c0_i32_1377 : BitVec 32 := 0#32
  let v2163 : BitVec 1 := Scalar.cmpi .ne v2162 c0_i32_1377
  let v2167 : BitVec 1 := Scalar.andi v2166 v2163
  let v2168 : BitVec 32 := Scalar.addi v2162 v2161
  let v2169 : BitVec 32 := Scalar.select v2167 v2168 v2162
  let c1_i32_1382 : BitVec 32 := 1#32
  let v2176 : BitVec 32 := Scalar.muli v2169 c1_i32_1382
  let v2177 : BitVec 32 := Scalar.addi c0_i32_1383 v2176
  v2177.toNat
def k0_dev45 (d0 : Dev nD) : Nat :=
  let c0_i32_1398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1388 : BitVec 32 := 5#32
  let v2186 : BitVec 32 := Scalar.addi v2 c5_i32_1388
  let c8_i32_1389 : BitVec 32 := 8#32
  let c0_i32_1390 : BitVec 32 := 0#32
  let v2187 : BitVec 1 := Scalar.cmpi .eq c8_i32_1389 c0_i32_1390
  let c1_i32_1391 : BitVec 32 := 1#32
  let v2188 : BitVec 32 := Scalar.select v2187 c1_i32_1391 c8_i32_1389
  let v2189 : BitVec 32 := Scalar.remsi v2186 v2188
  let c0_i32_1393 : BitVec 32 := 0#32
  let v2191 : BitVec 1 := Scalar.cmpi .slt v2189 c0_i32_1393
  let c0_i32_1394 : BitVec 32 := 0#32
  let v2192 : BitVec 1 := Scalar.cmpi .slt v2188 c0_i32_1394
  let v2193 : BitVec 1 := Scalar.xori v2191 v2192
  let c0_i32_1392 : BitVec 32 := 0#32
  let v2190 : BitVec 1 := Scalar.cmpi .ne v2189 c0_i32_1392
  let v2194 : BitVec 1 := Scalar.andi v2193 v2190
  let v2195 : BitVec 32 := Scalar.addi v2189 v2188
  let v2196 : BitVec 32 := Scalar.select v2194 v2195 v2189
  let c1_i32_1397 : BitVec 32 := 1#32
  let v2203 : BitVec 32 := Scalar.muli v2196 c1_i32_1397
  let v2204 : BitVec 32 := Scalar.addi c0_i32_1398 v2203
  v2204.toNat
def k0_dev46 (d0 : Dev nD) : Nat :=
  let c0_i32_1504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1494 : BitVec 32 := 4#32
  let v2351 : BitVec 32 := Scalar.addi v2 c4_i32_1494
  let c8_i32_1495 : BitVec 32 := 8#32
  let c0_i32_1496 : BitVec 32 := 0#32
  let v2352 : BitVec 1 := Scalar.cmpi .eq c8_i32_1495 c0_i32_1496
  let c1_i32_1497 : BitVec 32 := 1#32
  let v2353 : BitVec 32 := Scalar.select v2352 c1_i32_1497 c8_i32_1495
  let v2354 : BitVec 32 := Scalar.remsi v2351 v2353
  let c0_i32_1499 : BitVec 32 := 0#32
  let v2356 : BitVec 1 := Scalar.cmpi .slt v2354 c0_i32_1499
  let c0_i32_1500 : BitVec 32 := 0#32
  let v2357 : BitVec 1 := Scalar.cmpi .slt v2353 c0_i32_1500
  let v2358 : BitVec 1 := Scalar.xori v2356 v2357
  let c0_i32_1498 : BitVec 32 := 0#32
  let v2355 : BitVec 1 := Scalar.cmpi .ne v2354 c0_i32_1498
  let v2359 : BitVec 1 := Scalar.andi v2358 v2355
  let v2360 : BitVec 32 := Scalar.addi v2354 v2353
  let v2361 : BitVec 32 := Scalar.select v2359 v2360 v2354
  let c1_i32_1503 : BitVec 32 := 1#32
  let v2368 : BitVec 32 := Scalar.muli v2361 c1_i32_1503
  let v2369 : BitVec 32 := Scalar.addi c0_i32_1504 v2368
  v2369.toNat
def k0_dev47 (d0 : Dev nD) : Nat :=
  let c0_i32_1519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1509 : BitVec 32 := 3#32
  let v2378 : BitVec 32 := Scalar.addi v2 c3_i32_1509
  let c8_i32_1510 : BitVec 32 := 8#32
  let c0_i32_1511 : BitVec 32 := 0#32
  let v2379 : BitVec 1 := Scalar.cmpi .eq c8_i32_1510 c0_i32_1511
  let c1_i32_1512 : BitVec 32 := 1#32
  let v2380 : BitVec 32 := Scalar.select v2379 c1_i32_1512 c8_i32_1510
  let v2381 : BitVec 32 := Scalar.remsi v2378 v2380
  let c0_i32_1514 : BitVec 32 := 0#32
  let v2383 : BitVec 1 := Scalar.cmpi .slt v2381 c0_i32_1514
  let c0_i32_1515 : BitVec 32 := 0#32
  let v2384 : BitVec 1 := Scalar.cmpi .slt v2380 c0_i32_1515
  let v2385 : BitVec 1 := Scalar.xori v2383 v2384
  let c0_i32_1513 : BitVec 32 := 0#32
  let v2382 : BitVec 1 := Scalar.cmpi .ne v2381 c0_i32_1513
  let v2386 : BitVec 1 := Scalar.andi v2385 v2382
  let v2387 : BitVec 32 := Scalar.addi v2381 v2380
  let v2388 : BitVec 32 := Scalar.select v2386 v2387 v2381
  let c1_i32_1518 : BitVec 32 := 1#32
  let v2395 : BitVec 32 := Scalar.muli v2388 c1_i32_1518
  let v2396 : BitVec 32 := Scalar.addi c0_i32_1519 v2395
  v2396.toNat
def k0_dev48 (d0 : Dev nD) : Nat :=
  let c0_i32_1534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1524 : BitVec 32 := 2#32
  let v2405 : BitVec 32 := Scalar.addi v2 c2_i32_1524
  let c8_i32_1525 : BitVec 32 := 8#32
  let c0_i32_1526 : BitVec 32 := 0#32
  let v2406 : BitVec 1 := Scalar.cmpi .eq c8_i32_1525 c0_i32_1526
  let c1_i32_1527 : BitVec 32 := 1#32
  let v2407 : BitVec 32 := Scalar.select v2406 c1_i32_1527 c8_i32_1525
  let v2408 : BitVec 32 := Scalar.remsi v2405 v2407
  let c0_i32_1529 : BitVec 32 := 0#32
  let v2410 : BitVec 1 := Scalar.cmpi .slt v2408 c0_i32_1529
  let c0_i32_1530 : BitVec 32 := 0#32
  let v2411 : BitVec 1 := Scalar.cmpi .slt v2407 c0_i32_1530
  let v2412 : BitVec 1 := Scalar.xori v2410 v2411
  let c0_i32_1528 : BitVec 32 := 0#32
  let v2409 : BitVec 1 := Scalar.cmpi .ne v2408 c0_i32_1528
  let v2413 : BitVec 1 := Scalar.andi v2412 v2409
  let v2414 : BitVec 32 := Scalar.addi v2408 v2407
  let v2415 : BitVec 32 := Scalar.select v2413 v2414 v2408
  let c1_i32_1533 : BitVec 32 := 1#32
  let v2422 : BitVec 32 := Scalar.muli v2415 c1_i32_1533
  let v2423 : BitVec 32 := Scalar.addi c0_i32_1534 v2422
  v2423.toNat
def k0_dev49 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1539 : BitVec 32 := 1#32
  let v2432 : BitVec 32 := Scalar.addi v2 c1_i32_1539
  let c8_i32_1540 : BitVec 32 := 8#32
  let c0_i32_1541 : BitVec 32 := 0#32
  let v2433 : BitVec 1 := Scalar.cmpi .eq c8_i32_1540 c0_i32_1541
  let c1_i32_1542 : BitVec 32 := 1#32
  let v2434 : BitVec 32 := Scalar.select v2433 c1_i32_1542 c8_i32_1540
  let v2435 : BitVec 32 := Scalar.remsi v2432 v2434
  let c0_i32_1544 : BitVec 32 := 0#32
  let v2437 : BitVec 1 := Scalar.cmpi .slt v2435 c0_i32_1544
  let c0_i32_1545 : BitVec 32 := 0#32
  let v2438 : BitVec 1 := Scalar.cmpi .slt v2434 c0_i32_1545
  let v2439 : BitVec 1 := Scalar.xori v2437 v2438
  let c0_i32_1543 : BitVec 32 := 0#32
  let v2436 : BitVec 1 := Scalar.cmpi .ne v2435 c0_i32_1543
  let v2440 : BitVec 1 := Scalar.andi v2439 v2436
  let v2441 : BitVec 32 := Scalar.addi v2435 v2434
  let v2442 : BitVec 32 := Scalar.select v2440 v2441 v2435
  let c1_i32_1548 : BitVec 32 := 1#32
  let v2449 : BitVec 32 := Scalar.muli v2442 c1_i32_1548
  let v2450 : BitVec 32 := Scalar.addi c0_i32_1549 v2449
  v2450.toNat
def k0_dev50 (d0 : Dev nD) : Nat :=
  let c0_i32_1739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1731 : BitVec 32 := 1#32
  let v2717 : BitVec 32 := Scalar.addi v2 c1_i32_1731
  let c8_i32_1732 : BitVec 32 := 8#32
  let c0_i32_1733 : BitVec 32 := 0#32
  let v2718 : BitVec 1 := Scalar.cmpi .eq c8_i32_1732 c0_i32_1733
  let c1_i32_1734 : BitVec 32 := 1#32
  let v2719 : BitVec 32 := Scalar.select v2718 c1_i32_1734 c8_i32_1732
  let v2720 : BitVec 32 := Scalar.remsi v2717 v2719
  let c0_i32_1736 : BitVec 32 := 0#32
  let v2722 : BitVec 1 := Scalar.cmpi .slt v2720 c0_i32_1736
  let c0_i32_1737 : BitVec 32 := 0#32
  let v2723 : BitVec 1 := Scalar.cmpi .slt v2719 c0_i32_1737
  let v2724 : BitVec 1 := Scalar.xori v2722 v2723
  let c0_i32_1735 : BitVec 32 := 0#32
  let v2721 : BitVec 1 := Scalar.cmpi .ne v2720 c0_i32_1735
  let v2725 : BitVec 1 := Scalar.andi v2724 v2721
  let v2726 : BitVec 32 := Scalar.addi v2720 v2719
  let v2727 : BitVec 32 := Scalar.select v2725 v2726 v2720
  let c1_i32_1738 : BitVec 32 := 1#32
  let v2728 : BitVec 32 := Scalar.muli v2727 c1_i32_1738
  let v2729 : BitVec 32 := Scalar.addi c0_i32_1739 v2728
  v2729.toNat
def k0_dev51 (d0 : Dev nD) : Nat :=
  let c0_i32_1752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1744 : BitVec 32 := 2#32
  let v2738 : BitVec 32 := Scalar.addi v2 c2_i32_1744
  let c8_i32_1745 : BitVec 32 := 8#32
  let c0_i32_1746 : BitVec 32 := 0#32
  let v2739 : BitVec 1 := Scalar.cmpi .eq c8_i32_1745 c0_i32_1746
  let c1_i32_1747 : BitVec 32 := 1#32
  let v2740 : BitVec 32 := Scalar.select v2739 c1_i32_1747 c8_i32_1745
  let v2741 : BitVec 32 := Scalar.remsi v2738 v2740
  let c0_i32_1749 : BitVec 32 := 0#32
  let v2743 : BitVec 1 := Scalar.cmpi .slt v2741 c0_i32_1749
  let c0_i32_1750 : BitVec 32 := 0#32
  let v2744 : BitVec 1 := Scalar.cmpi .slt v2740 c0_i32_1750
  let v2745 : BitVec 1 := Scalar.xori v2743 v2744
  let c0_i32_1748 : BitVec 32 := 0#32
  let v2742 : BitVec 1 := Scalar.cmpi .ne v2741 c0_i32_1748
  let v2746 : BitVec 1 := Scalar.andi v2745 v2742
  let v2747 : BitVec 32 := Scalar.addi v2741 v2740
  let v2748 : BitVec 32 := Scalar.select v2746 v2747 v2741
  let c1_i32_1751 : BitVec 32 := 1#32
  let v2749 : BitVec 32 := Scalar.muli v2748 c1_i32_1751
  let v2750 : BitVec 32 := Scalar.addi c0_i32_1752 v2749
  v2750.toNat
def k0_dev52 (d0 : Dev nD) : Nat :=
  let c0_i32_1765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1757 : BitVec 32 := 3#32
  let v2759 : BitVec 32 := Scalar.addi v2 c3_i32_1757
  let c8_i32_1758 : BitVec 32 := 8#32
  let c0_i32_1759 : BitVec 32 := 0#32
  let v2760 : BitVec 1 := Scalar.cmpi .eq c8_i32_1758 c0_i32_1759
  let c1_i32_1760 : BitVec 32 := 1#32
  let v2761 : BitVec 32 := Scalar.select v2760 c1_i32_1760 c8_i32_1758
  let v2762 : BitVec 32 := Scalar.remsi v2759 v2761
  let c0_i32_1762 : BitVec 32 := 0#32
  let v2764 : BitVec 1 := Scalar.cmpi .slt v2762 c0_i32_1762
  let c0_i32_1763 : BitVec 32 := 0#32
  let v2765 : BitVec 1 := Scalar.cmpi .slt v2761 c0_i32_1763
  let v2766 : BitVec 1 := Scalar.xori v2764 v2765
  let c0_i32_1761 : BitVec 32 := 0#32
  let v2763 : BitVec 1 := Scalar.cmpi .ne v2762 c0_i32_1761
  let v2767 : BitVec 1 := Scalar.andi v2766 v2763
  let v2768 : BitVec 32 := Scalar.addi v2762 v2761
  let v2769 : BitVec 32 := Scalar.select v2767 v2768 v2762
  let c1_i32_1764 : BitVec 32 := 1#32
  let v2770 : BitVec 32 := Scalar.muli v2769 c1_i32_1764
  let v2771 : BitVec 32 := Scalar.addi c0_i32_1765 v2770
  v2771.toNat
def k0_dev53 (d0 : Dev nD) : Nat :=
  let c0_i32_1778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1770 : BitVec 32 := 4#32
  let v2780 : BitVec 32 := Scalar.addi v2 c4_i32_1770
  let c8_i32_1771 : BitVec 32 := 8#32
  let c0_i32_1772 : BitVec 32 := 0#32
  let v2781 : BitVec 1 := Scalar.cmpi .eq c8_i32_1771 c0_i32_1772
  let c1_i32_1773 : BitVec 32 := 1#32
  let v2782 : BitVec 32 := Scalar.select v2781 c1_i32_1773 c8_i32_1771
  let v2783 : BitVec 32 := Scalar.remsi v2780 v2782
  let c0_i32_1775 : BitVec 32 := 0#32
  let v2785 : BitVec 1 := Scalar.cmpi .slt v2783 c0_i32_1775
  let c0_i32_1776 : BitVec 32 := 0#32
  let v2786 : BitVec 1 := Scalar.cmpi .slt v2782 c0_i32_1776
  let v2787 : BitVec 1 := Scalar.xori v2785 v2786
  let c0_i32_1774 : BitVec 32 := 0#32
  let v2784 : BitVec 1 := Scalar.cmpi .ne v2783 c0_i32_1774
  let v2788 : BitVec 1 := Scalar.andi v2787 v2784
  let v2789 : BitVec 32 := Scalar.addi v2783 v2782
  let v2790 : BitVec 32 := Scalar.select v2788 v2789 v2783
  let c1_i32_1777 : BitVec 32 := 1#32
  let v2791 : BitVec 32 := Scalar.muli v2790 c1_i32_1777
  let v2792 : BitVec 32 := Scalar.addi c0_i32_1778 v2791
  v2792.toNat
def k0_dev54 (d0 : Dev nD) : Nat :=
  let c0_i32_1791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1783 : BitVec 32 := 5#32
  let v2801 : BitVec 32 := Scalar.addi v2 c5_i32_1783
  let c8_i32_1784 : BitVec 32 := 8#32
  let c0_i32_1785 : BitVec 32 := 0#32
  let v2802 : BitVec 1 := Scalar.cmpi .eq c8_i32_1784 c0_i32_1785
  let c1_i32_1786 : BitVec 32 := 1#32
  let v2803 : BitVec 32 := Scalar.select v2802 c1_i32_1786 c8_i32_1784
  let v2804 : BitVec 32 := Scalar.remsi v2801 v2803
  let c0_i32_1788 : BitVec 32 := 0#32
  let v2806 : BitVec 1 := Scalar.cmpi .slt v2804 c0_i32_1788
  let c0_i32_1789 : BitVec 32 := 0#32
  let v2807 : BitVec 1 := Scalar.cmpi .slt v2803 c0_i32_1789
  let v2808 : BitVec 1 := Scalar.xori v2806 v2807
  let c0_i32_1787 : BitVec 32 := 0#32
  let v2805 : BitVec 1 := Scalar.cmpi .ne v2804 c0_i32_1787
  let v2809 : BitVec 1 := Scalar.andi v2808 v2805
  let v2810 : BitVec 32 := Scalar.addi v2804 v2803
  let v2811 : BitVec 32 := Scalar.select v2809 v2810 v2804
  let c1_i32_1790 : BitVec 32 := 1#32
  let v2812 : BitVec 32 := Scalar.muli v2811 c1_i32_1790
  let v2813 : BitVec 32 := Scalar.addi c0_i32_1791 v2812
  v2813.toNat
def k0_dev55 (d0 : Dev nD) : Nat :=
  let c0_i32_1804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1796 : BitVec 32 := 6#32
  let v2822 : BitVec 32 := Scalar.addi v2 c6_i32_1796
  let c8_i32_1797 : BitVec 32 := 8#32
  let c0_i32_1798 : BitVec 32 := 0#32
  let v2823 : BitVec 1 := Scalar.cmpi .eq c8_i32_1797 c0_i32_1798
  let c1_i32_1799 : BitVec 32 := 1#32
  let v2824 : BitVec 32 := Scalar.select v2823 c1_i32_1799 c8_i32_1797
  let v2825 : BitVec 32 := Scalar.remsi v2822 v2824
  let c0_i32_1801 : BitVec 32 := 0#32
  let v2827 : BitVec 1 := Scalar.cmpi .slt v2825 c0_i32_1801
  let c0_i32_1802 : BitVec 32 := 0#32
  let v2828 : BitVec 1 := Scalar.cmpi .slt v2824 c0_i32_1802
  let v2829 : BitVec 1 := Scalar.xori v2827 v2828
  let c0_i32_1800 : BitVec 32 := 0#32
  let v2826 : BitVec 1 := Scalar.cmpi .ne v2825 c0_i32_1800
  let v2830 : BitVec 1 := Scalar.andi v2829 v2826
  let v2831 : BitVec 32 := Scalar.addi v2825 v2824
  let v2832 : BitVec 32 := Scalar.select v2830 v2831 v2825
  let c1_i32_1803 : BitVec 32 := 1#32
  let v2833 : BitVec 32 := Scalar.muli v2832 c1_i32_1803
  let v2834 : BitVec 32 := Scalar.addi c0_i32_1804 v2833
  v2834.toNat
def k0_dev56 (d0 : Dev nD) : Nat :=
  let c0_i32_1817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1809 : BitVec 32 := 7#32
  let v2843 : BitVec 32 := Scalar.addi v2 c7_i32_1809
  let c8_i32_1810 : BitVec 32 := 8#32
  let c0_i32_1811 : BitVec 32 := 0#32
  let v2844 : BitVec 1 := Scalar.cmpi .eq c8_i32_1810 c0_i32_1811
  let c1_i32_1812 : BitVec 32 := 1#32
  let v2845 : BitVec 32 := Scalar.select v2844 c1_i32_1812 c8_i32_1810
  let v2846 : BitVec 32 := Scalar.remsi v2843 v2845
  let c0_i32_1814 : BitVec 32 := 0#32
  let v2848 : BitVec 1 := Scalar.cmpi .slt v2846 c0_i32_1814
  let c0_i32_1815 : BitVec 32 := 0#32
  let v2849 : BitVec 1 := Scalar.cmpi .slt v2845 c0_i32_1815
  let v2850 : BitVec 1 := Scalar.xori v2848 v2849
  let c0_i32_1813 : BitVec 32 := 0#32
  let v2847 : BitVec 1 := Scalar.cmpi .ne v2846 c0_i32_1813
  let v2851 : BitVec 1 := Scalar.andi v2850 v2847
  let v2852 : BitVec 32 := Scalar.addi v2846 v2845
  let v2853 : BitVec 32 := Scalar.select v2851 v2852 v2846
  let c1_i32_1816 : BitVec 32 := 1#32
  let v2854 : BitVec 32 := Scalar.muli v2853 c1_i32_1816
  let v2855 : BitVec 32 := Scalar.addi c0_i32_1817 v2854
  v2855.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v2864 : BitVec 32 := Scalar.muli v2 c64_i32
  let v2865 : Index := Scalar.indexCast v2864
  let c0_1822 : Index := 0#32
  ![v2865.toNat, 0]
def k0_off8 (d0 : Dev nD) (c7_i32_1823 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2867 : BitVec 32 := Scalar.addi v2 c7_i32_1823
  let c8_i32_1824 : BitVec 32 := 8#32
  let c0_i32_1825 : BitVec 32 := 0#32
  let v2868 : BitVec 1 := Scalar.cmpi .eq c8_i32_1824 c0_i32_1825
  let c1_i32_1826 : BitVec 32 := 1#32
  let v2869 : BitVec 32 := Scalar.select v2868 c1_i32_1826 c8_i32_1824
  let v2870 : BitVec 32 := Scalar.remsi v2867 v2869
  let c0_i32_1828 : BitVec 32 := 0#32
  let v2872 : BitVec 1 := Scalar.cmpi .slt v2870 c0_i32_1828
  let c0_i32_1829 : BitVec 32 := 0#32
  let v2873 : BitVec 1 := Scalar.cmpi .slt v2869 c0_i32_1829
  let v2874 : BitVec 1 := Scalar.xori v2872 v2873
  let c0_i32_1827 : BitVec 32 := 0#32
  let v2871 : BitVec 1 := Scalar.cmpi .ne v2870 c0_i32_1827
  let v2875 : BitVec 1 := Scalar.andi v2874 v2871
  let v2876 : BitVec 32 := Scalar.addi v2870 v2869
  let v2877 : BitVec 32 := Scalar.select v2875 v2876 v2870
  let c64_i32_1838 : BitVec 32 := 64#32
  let v2890 : BitVec 32 := Scalar.muli v2877 c64_i32_1838
  let v2891 : Index := Scalar.indexCast v2890
  let c0_1839 : Index := 0#32
  ![v2891.toNat, 0]
abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x512 : Shape := ⟨2, ![512, 512]⟩
abbrev S512x8192 : Shape := ⟨2, ![512, 8192]⟩
abbrev S8192x512 : Shape := ⟨2, ![8192, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x8192, .bf16⟩
  | .hbm, ⟨2, _⟩ => ⟨S512x8192, .bf16⟩
  | .hbm, ⟨3, _⟩ => ⟨S512x8192, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S512x8192, .f32⟩
  | .hbm, ⟨8, _⟩ => ⟨S512x8192, .bf16⟩
  | .hbm, ⟨9, _⟩ => ⟨S_, .bf16⟩
  | .hbm, ⟨10, _⟩ => ⟨S512x8192, .bf16⟩
  | .hbm, ⟨11, _⟩ => ⟨S512x8192, .bf16⟩
  | .hbm, ⟨12, _⟩ => ⟨S512x512, .f32⟩
  | .hbm, ⟨13, _⟩ => ⟨S512x512, .bf16⟩
  | .hbm, ⟨14, _⟩ => ⟨S512x8192, .f32⟩
  | .hbm, ⟨15, _⟩ => ⟨S512x8192, .bf16⟩
  | .hbm, ⟨16, _⟩ => ⟨S_, .bf16⟩
  | .hbm, ⟨17, _⟩ => ⟨S512x8192, .bf16⟩
  | .hbm, ⟨18, _⟩ => ⟨S512x8192, .bf16⟩
  | .hbm, ⟨19, _⟩ => ⟨S512x512, .f32⟩
  | .hbm, ⟨20, _⟩ => ⟨S512x512, .bf16⟩
  | .hbm, ⟨21, _⟩ => ⟨S512x8192, .f32⟩
  | .hbm, ⟨22, _⟩ => ⟨S512x8192, .bf16⟩
  | .hbm, ⟨23, _⟩ => ⟨S_, .bf16⟩
  | .hbm, ⟨24, _⟩ => ⟨S512x8192, .bf16⟩
  | .hbm, ⟨25, _⟩ => ⟨S512x8192, .bf16⟩
  | .hbm, ⟨26, _⟩ => ⟨S512x512, .f32⟩
  | .hbm, ⟨27, _⟩ => ⟨S512x512, .bf16⟩
  | .hbm, ⟨28, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Steps.lean ====
/-
The kernel's program in a regular form: its operations grouped into a few kinds of step, each a function of the
device and of the distance `1 + r` to a peer, and its three layers one program at three weights. The last theorem
says the printed body is that program.
-/
module

public import proofs.«01_k».proof.Proof.Gen.KernelIdeal
public import proofs.«01_k».proof.Proof.Gen.KernelIdeal.Launch
public import proofs.«01_k».proof.Proof.Gen.KernelIdeal.Points

@[expose] public section

set_option maxRecDepth 16384

noncomputable section

namespace Cert.Steps

open Cert.KernelIdeal Cert.KernelIdeal.Gen
open Idealize.ShloMosaic Idealize.ShloMosaic.TcCoe
open Idealize.SL Idealize.SL.Sem

variable {F : FTy → Type} [FloatOps F]

/-- The kernel's programs: effects of a TensorCore at the mesh. -/
abbrev KProg (F : FTy → Type) [FloatOps F] (α : Type) : Type 1 := Prog (TpuEff nD τ sig (Elt F) Λ₀ .tc) α

/-! ## The buffers -/

/-- The activations' buffer, the outgoing partials' and the incoming partials'. -/
abbrev xB : Memref sig .tc .vmem S8x64x512 .bf16 := Memref.whole cc0_scratch0
abbrev pB : Memref sig .tc .vmem S8x64x512 .bf16 := Memref.whole cc0_scratch1
abbrev rB : Memref sig .tc .vmem S8x64x512 .bf16 := Memref.whole cc0_scratch2
/-- The staged input block and the staged result. -/
abbrev xS : Memref sig .tc .vmem S64x512 .bf16 := Memref.whole cc0_stg0_0
abbrev oS : Memref sig .tc .vmem S512x512 .f32 := Memref.whole cc0_stg7_0

theorem hxB : xB.IsWhole := Memref.isWhole_whole _
theorem hpB : pB.IsWhole := Memref.isWhole_whole _
theorem hrB : rB.IsWhole := Memref.isWhole_whole _

/-- The distance `1 + r` as the word the kernel adds to its own index. -/
abbrev wd (r : Fin 7) : BitVec 32 := BitVec.ofNat 32 (1 + r.val)

/-! ## Views -/

/-- Element `(d + 1 + r) mod 8` of an array of eight DMA semaphores, and element `d`. -/
abbrev semP (s : DmaSems sig S8) (d : Dev nD) (r : Fin 7) : DmaSem sig :=
  ((s.slice (Rect.unit (s := S8) (k0_off2 d (wd r)) S1.size (k0_off2_inb d r))).squeeze S_ squeezes_S1_S_).sem
abbrev semM (s : DmaSems sig S8) (d : Dev nD) : DmaSem sig :=
  ((s.slice (Rect.unit (s := S8) (k0_off3 d) S1.size (k0_off3_inb d))).squeeze S_ squeezes_S1_S_).sem
/-- Slot `(d + 1 + r) mod 8` of a buffer of eight blocks as a block, and slot `d`. -/
abbrev slotV (m : Memref sig .tc .vmem S8x64x512 .bf16) (d : Dev nD) (r : Fin 7) : Memref sig .tc .vmem S64x512 .bf16 :=
  (m.slice (Rect.unit (s := S8x64x512) (k0_off5 d (wd r)) S1x64x512.size (k0_off5_inb d r)) (fun _ => rfl)).squeeze S64x512 squeezes_S1x64x512_S64x512
abbrev slotM (m : Memref sig .tc .vmem S8x64x512 .bf16) (d : Dev nD) : Memref sig .tc .vmem S64x512 .bf16 :=
  (m.slice (Rect.unit (s := S8x64x512) (k0_off4 d) S1x64x512.size (k0_off4_inb d)) (fun _ => rfl)).squeeze S64x512 squeezes_S1x64x512_S64x512
/-- The rectangle of slot `(d + r) mod 8`, and of slot `d`, that loads and stores name. -/
abbrev rectO (d : Dev nD) (r : Fin 8) : Rect S8x64x512 :=
  Rect.unit (s := S8x64x512) (k0_off6 d (BitVec.ofNat 32 r.val)) S1x64x512.size (k0_off6_inb d r)
abbrev rectM (d : Dev nD) : Rect S8x64x512 := Rect.unit (s := S8x64x512) (k0_off1 d) S1x64x512.size (k0_off1_inb d)

theorem wordsV {m : Memref sig .tc .vmem S8x64x512 .bf16} (h : m.IsWhole) (d : Dev nD) (r : Fin 7) : (slotV m d r).view.WordExact :=
  (h.wordExact_slice rfl _ (k0_off5_wordsbf16 d r)).reshape _ _
theorem wordsM {m : Memref sig .tc .vmem S8x64x512 .bf16} (h : m.IsWhole) (d : Dev nD) : (slotM m d).view.WordExact :=
  (h.wordExact_slice rfl _ (k0_off4_wordsbf16 d)).reshape _ _

/-! ## The peers the program's transfers name -/

/-- The device the `r`-th barrier signal names. -/
def barDev (d : Dev nD) : Fin 7 → Dev nD
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩
  | 4 => ⟨k0_dev5 d, k0_dev5_lt d⟩ | 5 => ⟨k0_dev6 d, k0_dev6_lt d⟩ | 6 => ⟨k0_dev7 d, k0_dev7_lt d⟩
/-- The device at distance `1 + r` that an activation block is sent to. -/
def agDev (d : Dev nD) : Fin 7 → Dev nD
  | 0 => ⟨k0_dev8 d, k0_dev8_lt d⟩ | 1 => ⟨k0_dev9 d, k0_dev9_lt d⟩ | 2 => ⟨k0_dev10 d, k0_dev10_lt d⟩ | 3 => ⟨k0_dev11 d, k0_dev11_lt d⟩
  | 4 => ⟨k0_dev12 d, k0_dev12_lt d⟩ | 5 => ⟨k0_dev13 d, k0_dev13_lt d⟩ | 6 => ⟨k0_dev14 d, k0_dev14_lt d⟩
/-- The device at distance `1 + r` that a partial is sent to. -/
def rsDev (d : Dev nD) : Fin 7 → Dev nD
  | 6 => ⟨k0_dev15 d, k0_dev15_lt d⟩ | 5 => ⟨k0_dev16 d, k0_dev16_lt d⟩ | 4 => ⟨k0_dev17 d, k0_dev17_lt d⟩ | 3 => ⟨k0_dev18 d, k0_dev18_lt d⟩
  | 2 => ⟨k0_dev19 d, k0_dev19_lt d⟩ | 1 => ⟨k0_dev20 d, k0_dev20_lt d⟩ | 0 => ⟨k0_dev21 d, k0_dev21_lt d⟩

/-! ## The steps -/

/-- Run a step at each element of a list in order. -/
def each : List (Fin 7) → (Fin 7 → KProg F PUnit) → KProg F PUnit
  | [], _ => pure ⟨⟩
  | r :: l, f => f r >>= fun _ => each l f

/-- The barrier semaphore. -/
abbrev barS : Sem sig := (SemArray.scalar (sig.barrier 0 rfl) : Sems sig S_).sem

/-- Signal a peer's barrier semaphore. -/
def barSig (d : Dev nD) (r : Fin 7) : KProg F PUnit := semSignalWord (barDev d r) barS 1#32
/-- Wait for the seven signals. -/
def barWait : KProg F PUnit := semWaitWord barS 7#32

/-- Send this device's activation block to a peer. -/
def agSend (d : Dev nD) (r : Fin 7) : KProg F PUnit :=
  Prog.lift (.enqueueDma (slotM xB d) (.remote (Dev.tc (agDev d r)) (slotM xB d) (.dma (semP cc0_scratch3 d r))) (.dma (semM cc0_scratch4 d))
    (wordsM hxB d) (wordsM hxB d) ⟨⟨rfl, Or.inl rfl⟩, trivial⟩)
/-- Wait for a peer's activation block. -/
def agWait (d : Dev nD) (r : Fin 7) : KProg F PUnit :=
  Prog.lift (.waitDma2 (semP cc0_scratch4 d r) (slotV xB d r) (slotV xB d r) (wordsV hxB d r) (wordsV hxB d r))
/-- Wait for this device's activation block to have left. -/
def agDone (d : Dev nD) (r : Fin 7) : KProg F PUnit :=
  Prog.lift (.waitDma2 (semP cc0_scratch3 d r) (slotM xB d) (slotM xB d) (wordsM hxB d) (wordsM hxB d))
/-- Send a peer its partial. -/
def rsSend (d : Dev nD) (r : Fin 7) : KProg F PUnit :=
  Prog.lift (.enqueueDma (slotV pB d r) (.remote (Dev.tc (rsDev d r)) (slotM rB d) (.dma (semP cc0_scratch5 d r))) (.dma (semM cc0_scratch6 d))
    (wordsV hpB d r) (wordsM hrB d) ⟨⟨rfl, Or.inl rfl⟩, trivial⟩)
/-- Wait for a peer's partial. -/
def rsWait (d : Dev nD) (r : Fin 7) : KProg F PUnit :=
  Prog.lift (.waitDma2 (semP cc0_scratch6 d r) (slotV rB d r) (slotV rB d r) (wordsV hrB d r) (wordsV hrB d r))
/-- Wait for a partial to have left. -/
def rsDone (d : Dev nD) (r : Fin 7) : KProg F PUnit :=
  Prog.lift (.waitDma2 (semP cc0_scratch5 d r) (slotM rB d) (slotV pB d r) (wordsM hrB d) (wordsV hpB d r))

/-- Load slot `(d + r) mod 8` of a buffer of eight blocks. -/
def ldS (m : Memref sig .tc .vmem S8x64x512 .bf16) (d : Dev nD) (r : Fin 8) : KProg F (Vec F S1x64x512 .bf16) :=
  Prog.lift (.load m (rectO d r).toLoadRect (View.loadsAt_vmem h_S1x64x512))
/-- Store slot `(d + r) mod 8` of the outgoing partials (after a load of it the program does not use). -/
def stP (d : Dev nD) (r : Fin 8) (v : FVec F S1x64x512 .bf16) : KProg F PUnit := do
  let _ ← ldS pB d r
  Prog.lift (.store pB (rectO d r) v Finset.univ (View.stores_vmem h_S1x64x512 (hpB.storeExact_slice rfl _ (k0_off6_packedbf16 d r)) (fun _ => rfl)) (.inl rfl))
/-- Store this device's activation block (after a load of it the program does not use). -/
def stX (d : Dev nD) (v : FVec F S1x64x512 .bf16) : KProg F PUnit := do
  let _ ← (Prog.lift (.load xB (rectM d).toLoadRect (View.loadsAt_vmem h_S1x64x512)) : KProg F (Vec F S1x64x512 .bf16))
  Prog.lift (.store xB (rectM d) v Finset.univ (View.stores_vmem h_S1x64x512 (hxB.storeExact_slice rfl _ (k0_off1_packedbf16 d)) (fun _ => rfl)) (.inl rfl))
/-- Store this device's rows of the result, and a peer's. -/
def stOM (d : Dev nD) (v : FVec F S64x512 .f32) : KProg F PUnit := do
  let _ ← (Prog.lift (.load oS (Rect.unit (s := S512x512) (k0_off7 d) S64x512.size (k0_off7_inb d)).toLoadRect (View.loadsAt_vmem h_S64x512)) : KProg F (Vec F S64x512 .f32))
  Prog.lift (.store oS (Rect.unit (s := S512x512) (k0_off7 d) S64x512.size (k0_off7_inb d)) v Finset.univ (View.stores_vmem_bits_univ h_S64x512 rfl) (.inl rfl))
def stOP (d : Dev nD) (r : Fin 7) (v : FVec F S64x512 .f32) : KProg F PUnit := do
  let _ ← (Prog.lift (.load oS (Rect.unit (s := S512x512) (k0_off8 d (wd r)) S64x512.size (k0_off8_inb d r)).toLoadRect (View.loadsAt_vmem h_S64x512)) : KProg F (Vec F S64x512 .f32))
  Prog.lift (.store oS (Rect.unit (s := S512x512) (k0_off8 d (wd r)) S64x512.size (k0_off8_inb d r)) v Finset.univ (View.stores_vmem_bits_univ h_S64x512 rfl) (.inl rfl))

/-! ## What the program computes between its accesses -/

/-- A loaded slot as a block, and a block as a slot. -/
def asB (v : Vec F S1x64x512 .bf16) : FVec F S64x512 .bf16 := shapeCast S64x512 v shapeCasts_S1x64x512_S64x512
def asS (v : FVec F S64x512 .bf16) : FVec F S1x64x512 .bf16 := shapeCast S1x64x512 v shapeCasts_S64x512_S1x64x512
/-- One chunk of a layer: four blocks through the device's columns of the first weight, rectified, and its rows of the second. -/
def chunk (wi : FVec F S512x1024 .bf16) (wo : FVec F S1024x512 .bf16) (a b c e : FVec F S64x512 .bf16) : FVec F S256x512 .f32 :=
  matmul dot_S256x1024_S1024x512_S256x512_1_0_0_1_n_n none
    (truncf .bf16 (maximumf
      (matmul dot_S256x512_S512x1024_S256x1024_1_0_0_1_n_n none
        (concatenate S256x512 0 [⟨S64x512, a⟩, ⟨S64x512, b⟩, ⟨S64x512, c⟩, ⟨S64x512, e⟩] concatenates_S64x512_S64x512_S64x512_S64x512_S256x512_d0)
        wi (constant S256x1024 .f32 0x00000000#32))
      (broadcast S256x1024 (Scalar.ofBits .f32 0x00000000#32))) bitsLt_bf16_f32)
    wo (constant S256x512 .f32 0x00000000#32)
/-- The chunk's four blocks of partials. -/
def row0 (p : FVec F S256x512 .f32) : FVec F S64x512 .f32 := extractStridedSlice S64x512 ![0, 0] p slices_S256x512_o0_0_S64x512
def row1 (p : FVec F S256x512 .f32) : FVec F S64x512 .f32 := extractStridedSlice S64x512 ![64, 0] p slices_S256x512_o64_0_S64x512
def row2 (p : FVec F S256x512 .f32) : FVec F S64x512 .f32 := extractStridedSlice S64x512 ![128, 0] p slices_S256x512_o128_0_S64x512
def row3 (p : FVec F S256x512 .f32) : FVec F S64x512 .f32 := extractStridedSlice S64x512 ![192, 0] p slices_S256x512_o192_0_S64x512
/-- A block rounded to bf16; a bf16 block widened; a partial added. -/
def rnd (p : FVec F S64x512 .f32) : FVec F S64x512 .bf16 := truncf .bf16 p bitsLt_bf16_f32
def wdn (p : FVec F S64x512 .bf16) : FVec F S64x512 .f32 := extf .f32 p bitsLt_bf16_f32
def accAdd (a : FVec F S64x512 .f32) (v : FVec F S64x512 .bf16) : FVec F S64x512 .f32 := addf a (wdn v)

/-! ## The program -/

/-- Add the peers' partials as they come. -/
def accum (d : Dev nD) : List (Fin 7) → FVec F S64x512 .f32 → KProg F (FVec F S64x512 .f32)
  | [], a => pure a
  | r :: l, a => do
    rsWait d r
    let v ← ldS rB d r.succ
    accum d l (accAdd a (asB v))

/-- Store a partial and send it. -/
def stSend (d : Dev nD) (r : Fin 7) (v : FVec F S64x512 .f32) : KProg F PUnit := do
  stP d r.succ (asS (rnd v))
  rsSend d r

/-- The first half of a layer: the send, the weights, the blocks at distances 0, 7, 6, 5. -/
def half1 (d : Dev nD) (w1 : Memref sig .tc .vmem S512x1024 .bf16) (w2 : Memref sig .tc .vmem S1024x512 .bf16) :
    KProg F (FVec F S512x1024 .bf16 × FVec F S1024x512 .bf16 × FVec F S64x512 .f32) := do
  each [0, 1, 2, 3, 4, 5, 6] (agSend d)
  let wi ← (Prog.lift (.load w1 (Rect.unit (s := S512x1024) ![0, 0] S512x1024.size inb_S512x1024_S512x1024_0_0).toLoadRect (View.loadsAt_vmem h_S512x1024)) : KProg F (Vec F S512x1024 .bf16))
  let wo ← (Prog.lift (.load w2 (Rect.unit (s := S1024x512) ![0, 0] S1024x512.size inb_S1024x512_S1024x512_0_0).toLoadRect (View.loadsAt_vmem h_S1024x512)) : KProg F (Vec F S1024x512 .bf16))
  each [6, 5, 4] (agWait d)
  let a ← ldS xB d 0
  let b ← ldS xB d 7
  let c ← ldS xB d 6
  let e ← ldS xB d 5
  stP d 0 (asS (rnd (row0 (chunk (shapeCast S512x1024 wi shapeCasts_S512x1024_S512x1024) (shapeCast S1024x512 wo shapeCasts_S1024x512_S1024x512) (asB a) (asB b) (asB c) (asB e)))))
  stSend d 6 (row1 (chunk (shapeCast S512x1024 wi shapeCasts_S512x1024_S512x1024) (shapeCast S1024x512 wo shapeCasts_S1024x512_S1024x512) (asB a) (asB b) (asB c) (asB e)))
  stSend d 5 (row2 (chunk (shapeCast S512x1024 wi shapeCasts_S512x1024_S512x1024) (shapeCast S1024x512 wo shapeCasts_S1024x512_S1024x512) (asB a) (asB b) (asB c) (asB e)))
  stSend d 4 (row3 (chunk (shapeCast S512x1024 wi shapeCasts_S512x1024_S512x1024) (shapeCast S1024x512 wo shapeCasts_S1024x512_S1024x512) (asB a) (asB b) (asB c) (asB e)))
  pure (shapeCast S512x1024 wi shapeCasts_S512x1024_S512x1024, shapeCast S1024x512 wo shapeCasts_S1024x512_S1024x512,
    row0 (chunk (shapeCast S512x1024 wi shapeCasts_S512x1024_S512x1024) (shapeCast S1024x512 wo shapeCasts_S1024x512_S1024x512) (asB a) (asB b) (asB c) (asB e)))

/-- The second half's sends: the blocks at distances 4, 3, 2, 1. -/
def half2 (d : Dev nD) (wi : FVec F S512x1024 .bf16) (wo : FVec F S1024x512 .bf16) : KProg F PUnit := do
  each [3, 2, 1, 0] (agWait d)
  let a ← ldS xB d 4
  let b ← ldS xB d 3
  let c ← ldS xB d 2
  let e ← ldS xB d 1
  stSend d 3 (row0 (chunk wi wo (asB a) (asB b) (asB c) (asB e)))
  stSend d 2 (row1 (chunk wi wo (asB a) (asB b) (asB c) (asB e)))
  stSend d 1 (row2 (chunk wi wo (asB a) (asB b) (asB c) (asB e)))
  stSend d 0 (row3 (chunk wi wo (asB a) (asB b) (asB c) (asB e)))

/-- The end of a layer: the sum, the sends' completions, the new block. -/
def fin3 (d : Dev nD) (a : FVec F S64x512 .f32) : KProg F (FVec F S64x512 .f32) := do
  let s ← accum d [0, 1, 2, 3, 4, 5, 6] a
  each [0, 1, 2, 3, 4, 5, 6] (agDone d)
  each [6, 5, 4, 3, 2, 1, 0] (rsDone d)
  stX d (asS (rnd s))
  pure s

/-- A layer. -/
def layer (d : Dev nD) (w1 : Memref sig .tc .vmem S512x1024 .bf16) (w2 : Memref sig .tc .vmem S1024x512 .bf16) : KProg F (FVec F S64x512 .f32) := do
  let p ← half1 d w1 w2
  half2 d p.1 p.2.1
  fin3 d p.2.2

/-- One peer's rows of the result. -/
def outRow (d : Dev nD) (r : Fin 7) : KProg F PUnit := do
  agWait d r
  let v ← ldS xB d r.succ
  stOP d r (wdn (asB v))

/-- The last exchange and the result. -/
def tail4 (d : Dev nD) (s : FVec F S64x512 .f32) : KProg F PUnit := do
  each [0, 1, 2, 3, 4, 5, 6] (agSend d)
  stOM d s
  each [6, 5, 4, 3, 2, 1, 0] (outRow d)
  each [0, 1, 2, 3, 4, 5, 6] (agDone d)

/-- The entry handshake. -/
def head0 (d : Dev nD) : KProg F PUnit := do
  each [0, 1, 2, 3, 4, 5, 6] (barSig d)
  barWait
  let x ← (Prog.lift (.load xS (Rect.unit (s := S64x512) ![0, 0] S64x512.size inb_S64x512_S64x512_0_0).toLoadRect (View.loadsAt_vmem h_S64x512)) : KProg F (Vec F S64x512 .bf16))
  stX d (asS (shapeCast S64x512 x shapeCasts_S64x512_S64x512))

/-- The whole kernel at device `d`. -/
def prog (d : Dev nD) : KProg F PUnit := do
  head0 d
  let _ ← layer d (Memref.whole cc0_stg1_0) (Memref.whole cc0_stg2_0)
  let _ ← layer d (Memref.whole cc0_stg3_0) (Memref.whole cc0_stg4_0)
  let s ← layer d (Memref.whole cc0_stg5_0) (Memref.whole cc0_stg6_0)
  tail4 d s

set_option maxHeartbeats 2000000 in
/-- The printed body is the program above, at the device it reads. -/
theorem body_eq : bodyAt0 (F := F) t0_0 = Prog.op .deviceId prog := by
  chain_rfl

end Cert.Steps

end
-- ==== Proof.Slots.lean ====
/-
The slots of the kernel's three buffers of eight blocks: the peers by distance, the slot each view and rectangle
names, the cells, and what a read, a store and a landing of a slot hold.
-/
module

public import proofs.«01_k».proof.Proof.Steps
public import Idealize.ShloMosaic.Lib.ValueLayout
public import Idealize.ShloMosaic.Lib.ViewIndex

@[expose] public section

set_option maxRecDepth 16384

noncomputable section

namespace Cert.Steps

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-! ## Peers -/

/-- The device at distance `1 + r`. -/
def peer (c : Dev nD) (r : Fin 7) : Dev nD := Fin.ofNat 8 (c.val + 1 + r.val)
/-- The device at distance `r`. -/
def peer0 (c : Dev nD) (r : Fin 8) : Dev nD := Fin.ofNat 8 (c.val + r.val)

/-- A device's peer at distance `1 + r` sees it at the opposite distance. -/
theorem peer_rev (c : Dev nD) (r : Fin 7) : peer (peer c r) r.rev = c := by revert c r; decide +kernel
theorem peer_rev' (c : Dev nD) (r : Fin 7) : peer (peer c r.rev) r = c := by revert c r; decide +kernel
theorem peer_ne (c : Dev nD) (r : Fin 7) : peer c r ≠ c := by revert c r; decide +kernel
theorem peer_inj (c : Dev nD) (r r' : Fin 7) (h : peer c r = peer c r') : r = r' := by revert c r r'; decide +kernel
theorem peer_surj (c t : Dev nD) (h : t ≠ c) : ∃ r, peer c r = t := by revert c t; decide +kernel
theorem peer0_succ (c : Dev nD) (r : Fin 7) : peer0 c r.succ = peer c r := by revert c r; decide +kernel
theorem peer0_zero (c : Dev nD) : peer0 c 0 = c := by revert c; decide +kernel

theorem barDev_eq (c : Dev nD) (r : Fin 7) : barDev c r = peer c r := by revert c r; decide +kernel
theorem agDev_eq (c : Dev nD) (r : Fin 7) : agDev c r = peer c r := by revert c r; decide +kernel
theorem rsDev_eq (c : Dev nD) (r : Fin 7) : rsDev c r = peer c r := by revert c r; decide +kernel

/-! ## Cells' semaphores -/

/-- The DMA semaphores by their array (`0` the sends of activations, `1` their arrivals, `2` the sends of partials,
    `3` their arrivals) and the peer. -/
def qs (a : Fin 4) (t : Dev nD) : DmaSem sig :=
  ⟨8 + 8 * a.val + t.val, by have := a.isLt; have := t.isLt; show _ < 40; have : nD = 8 := rfl; omega⟩

theorem semP3 (d : Dev nD) (r : Fin 7) : semP cc0_scratch3 d r = qs 0 (peer d r) := by revert d r; decide +kernel
theorem semP4 (d : Dev nD) (r : Fin 7) : semP cc0_scratch4 d r = qs 1 (peer d r) := by revert d r; decide +kernel
theorem semP5 (d : Dev nD) (r : Fin 7) : semP cc0_scratch5 d r = qs 2 (peer d r) := by revert d r; decide +kernel
theorem semP6 (d : Dev nD) (r : Fin 7) : semP cc0_scratch6 d r = qs 3 (peer d r) := by revert d r; decide +kernel
theorem semM4 (d : Dev nD) : semM cc0_scratch4 d = qs 1 d := by revert d; decide +kernel
theorem semM6 (d : Dev nD) : semM cc0_scratch6 d = qs 3 d := by revert d; decide +kernel

/-! ## Slots -/

theorem off5_eq (d : Dev nD) (r : Fin 7) : k0_off5 d (wd r) = ![(peer d r).val, 0, 0] := by revert d r; decide +kernel
theorem off6_eq (d : Dev nD) (r : Fin 8) : k0_off6 d (BitVec.ofNat 32 r.val) = ![(peer0 d r).val, 0, 0] := by revert d r; decide +kernel
theorem off8_eq (d : Dev nD) (r : Fin 7) : k0_off8 d (wd r) = ![64 * (peer d r).val, 0] := by revert d r; decide +kernel

theorem slot_inb (k : Dev nD) : ∀ a : Fin 3, (![k.val, 0, 0] : Fin 3 → Nat) a + S1x64x512.size a ≤ S8x64x512.size a := by
  revert k; decide +kernel

/-- Slot `k`'s rectangle, and its block as a view. -/
abbrev slotR (k : Dev nD) : Rect S8x64x512 := Rect.unit (s := S8x64x512) ![k.val, 0, 0] S1x64x512.size (slot_inb k)
abbrev slotAt (m : Memref sig .tc .vmem S8x64x512 .bf16) (k : Dev nD) : Memref sig .tc .vmem S64x512 .bf16 :=
  (m.slice (slotR k) (fun _ => rfl)).squeeze S64x512 squeezes_S1x64x512_S64x512

theorem rectO_eq (d : Dev nD) (r : Fin 8) : rectO d r = slotR (peer0 d r) := Rect.unit_congr (off6_eq d r) _ _
theorem rectM_eq (d : Dev nD) : rectM d = slotR d := Rect.unit_congr (k0_off1_eq d) _ _
theorem slotV_eq (m : Memref sig .tc .vmem S8x64x512 .bf16) (d : Dev nD) (r : Fin 7) : slotV m d r = slotAt m (peer d r) := by
  show Memref.squeeze (m.slice _ _) _ _ = _
  congr 1
  exact m.slice_unit_congr (off5_eq d r) _ _ _ _
theorem slotM_eq (m : Memref sig .tc .vmem S8x64x512 .bf16) (d : Dev nD) : slotM m d = slotAt m d := by
  show Memref.squeeze (m.slice _ _) _ _ = _
  congr 1
  exact m.slice_unit_congr (k0_off4_eq d) _ _ _ _

/-- The elements of slot `k`. -/
def slotSet (k : Dev nD) : Finset S8x64x512.Idx := (slotR k).set

theorem mem_slotSet (k : Dev nD) (i : S8x64x512.Idx) : i ∈ slotSet k ↔ (i 0).val = k.val := by
  unfold slotSet
  rw [Rect.mem_set_unit]
  have h0 : (i 0).val < 8 := (i 0).isLt
  have h1 : (i 1).val < 64 := (i 1).isLt
  have h2 : (i 2).val < 512 := (i 2).isLt
  constructor
  · intro h
    have := h 0
    simp only [Matrix.cons_val_zero, show S1x64x512.size (0 : Fin 3) = 1 from rfl] at this
    omega
  · intro h a
    fin_cases a
    · show k.val ≤ (i 0).val ∧ (i 0).val < k.val + 1
      omega
    · show 0 ≤ (i 1).val ∧ (i 1).val < 0 + 64
      omega
    · show 0 ≤ (i 2).val ∧ (i 2).val < 0 + 512
      omega

theorem slotSet_disjoint {k k' : Dev nD} (h : k ≠ k') : Disjoint (slotSet k) (slotSet k') :=
  Finset.disjoint_left.mpr fun i hi hi' => h (Fin.ext (((mem_slotSet k i).mp hi).symm.trans ((mem_slotSet k' i).mp hi')))

/-- The indices of a block, of a one-block array and of an array of eight blocks by their coordinates. -/
def at2 (a : Fin 64) (b : Fin 512) : S64x512.Idx := ix2 a b
def at1 (a : Fin 64) (b : Fin 512) : S1x64x512.Idx := ix3 (⟨0, Nat.one_pos⟩ : Fin 1) a b
def at3 (k : Dev nD) (a : Fin 64) (b : Fin 512) : S8x64x512.Idx := ix3 (n0 := 8) k a b

theorem eq_at2 (j : S64x512.Idx) : ∃ a b, j = at2 a b := ⟨j 0, j 1, funext fun a => by fin_cases a <;> rfl⟩
theorem eq_at3 {k : Dev nD} {i : S8x64x512.Idx} (h : i ∈ slotSet k) : ∃ a b, i = at3 k a b :=
  ⟨i 1, i 2, Shape.idx3_ext ((mem_slotSet k i).mp h) rfl rfl⟩

/-- A slot's rectangle places `(0, a, b)` at `(k, a, b)`. -/
theorem slotR_emb (k : Dev nD) (a : Fin 64) (b : Fin 512) : (slotR k).emb (at1 a b) = at3 k a b :=
  Shape.idx3_ext (by show k.val + 1 * 0 = k.val; omega) (by show 0 + 1 * a.val = a.val; omega) (by show 0 + 1 * b.val = b.val; omega)

/-- An array of blocks holding `X` in every slot. -/
def bufOf (X : FVec F S64x512 .bf16) : S8x64x512.Idx → Elt F .bf16 := fun i => X (at2 (i 1) (i 2))

omit [FloatOps F] in
theorem bufOf_at3 (X : FVec F S64x512 .bf16) (k : Dev nD) (a : Fin 64) (b : Fin 512) : bufOf X (at3 k a b) = X (at2 a b) := rfl

omit [FloatOps F] in
theorem asB_apply (v : Vec F S1x64x512 .bf16) (a : Fin 64) (b : Fin 512) : asB v (at2 a b) = v (at1 a b) := by
  unfold asB shapeCast
  exact congrArg v (reshapeEquiv_ix2_1ab _ a b)

omit [FloatOps F] in
theorem asB_asS (X : FVec F S64x512 .bf16) : asB (asS X) = X := shapeCast_shapeCast X _ _

omit [FloatOps F] in
theorem asS_apply (X : FVec F S64x512 .bf16) (a : Fin 64) (b : Fin 512) : asS X (at1 a b) = X (at2 a b) :=
  (asB_apply (asS X) a b).symm.trans (congrFun (asB_asS X) _)

/-! ## The sets the views go through -/

theorem set_xB (k : Dev nD) : (slotAt xB k).view.set = slotSet k := (View.set_reshape _ _).trans (View.set_slice_whole _ _)
theorem set_pB (k : Dev nD) : (slotAt pB k).view.set = slotSet k := (View.set_reshape _ _).trans (View.set_slice_whole _ _)
theorem set_rB (k : Dev nD) : (slotAt rB k).view.set = slotSet k := (View.set_reshape _ _).trans (View.set_slice_whole _ _)
theorem acc_xB (k : Dev nD) : (xB.access (slotR k)).set = slotSet k := View.set_slice_whole _ _
theorem acc_pB (k : Dev nD) : (pB.access (slotR k)).set = slotSet k := View.set_slice_whole _ _
theorem acc_rB (k : Dev nD) : (rB.access (slotR k)).set = slotSet k := View.set_slice_whole _ _

/-! ## What loads read, stores leave and transfers land -/

omit [FloatOps F] in
/-- A load of slot `k` of a buffer whose slots hold `X` reads `X`. -/
theorem read_xB (k : Dev nD) (X : FVec F S64x512 .bf16) : asB ((xB.access (slotR k)).read (Elt F) (bufOf X)) = X := by
  funext j
  obtain ⟨a, b, rfl⟩ := eq_at2 j
  rw [asB_apply]
  show bufOf X ((slotR k).emb _) = _
  rw [slotR_emb, bufOf_at3]
omit [FloatOps F] in
theorem read_rB (k : Dev nD) (X : FVec F S64x512 .bf16) : asB ((rB.access (slotR k)).read (Elt F) (bufOf X)) = X := by
  funext j
  obtain ⟨a, b, rfl⟩ := eq_at2 j
  rw [asB_apply]
  show bufOf X ((slotR k).emb _) = _
  rw [slotR_emb, bufOf_at3]

omit [FloatOps F] in
/-- A store of `X` to slot `k` leaves it holding `X`. -/
theorem store_xB (k : Dev nD) (f : S8x64x512.Idx → Elt F .bf16) (X : FVec F S64x512 .bf16) :
    ∀ i ∈ slotSet k, (xB.access (slotR k)).write (Elt F) f (asS X) Finset.univ i = bufOf X i := by
  intro i hi
  obtain ⟨a, b, rfl⟩ := eq_at3 hi
  rw [bufOf_at3, ← slotR_emb]
  exact (View.write_emb_of_mem (v := xB.access (slotR k)) (Val := Elt F) f (asS X) (Finset.mem_univ _)).trans (asS_apply X _ _)
omit [FloatOps F] in
theorem store_pB (k : Dev nD) (f : S8x64x512.Idx → Elt F .bf16) (X : FVec F S64x512 .bf16) :
    ∀ i ∈ slotSet k, (pB.access (slotR k)).write (Elt F) f (asS X) Finset.univ i = bufOf X i := by
  intro i hi
  obtain ⟨a, b, rfl⟩ := eq_at3 hi
  rw [bufOf_at3, ← slotR_emb]
  exact (View.write_emb_of_mem (v := pB.access (slotR k)) (Val := Elt F) f (asS X) (Finset.mem_univ _)).trans (asS_apply X _ _)

omit [FloatOps F] in
/-- A squeezed slot's view places `(a, b)` at `(k, a, b)`. -/
theorem slotAt_emb (k : Dev nD) (a : Fin 64) (b : Fin 512) :
    (slotR k).emb (Shape.reshapeEquiv squeezes_S1x64x512_S64x512.numel_eq (at2 a b)) = at3 k a b :=
  (congrArg (slotR k).emb (reshapeEquiv_ix2_1ab _ a b)).trans (slotR_emb k a b)

omit [FloatOps F] in
/-- A transfer of slot `k` holding `X` into slot `k'` leaves it holding `X`. -/
theorem land_xB (k k' : Dev nD) (f : S8x64x512.Idx → Elt F .bf16) (X : FVec F S64x512 .bf16) :
    ∀ i ∈ slotSet k', (slotAt xB k').view.write (Elt F) f ((slotAt xB k).view.read (Elt F) (bufOf X)) Finset.univ i = bufOf X i := by
  intro i hi
  obtain ⟨a, b, rfl⟩ := eq_at3 hi
  rw [bufOf_at3, ← slotAt_emb]
  refine (View.write_emb_of_mem (v := (slotAt xB k').view) (Val := Elt F) f _ (Finset.mem_univ _)).trans ?_
  show bufOf X ((slotR k).emb (Shape.reshapeEquiv _ _)) = _
  rw [slotAt_emb, bufOf_at3]
omit [FloatOps F] in
theorem land_rB (k k' : Dev nD) (f : S8x64x512.Idx → Elt F .bf16) (X : FVec F S64x512 .bf16) :
    ∀ i ∈ slotSet k', (slotAt rB k').view.write (Elt F) f ((slotAt pB k).view.read (Elt F) (bufOf X)) Finset.univ i = bufOf X i := by
  intro i hi
  obtain ⟨a, b, rfl⟩ := eq_at3 hi
  rw [bufOf_at3, ← slotAt_emb]
  refine (View.write_emb_of_mem (v := (slotAt rB k').view) (Val := Elt F) f _ (Finset.mem_univ _)).trans ?_
  show bufOf X ((slotR k).emb (Shape.reshapeEquiv _ _)) = _
  rw [slotAt_emb, bufOf_at3]

end Cert.Steps

end
-- ==== Proof.Contents.lean ====
/-
What the kernel computes, as functions of its inputs: every device's activation block before each layer, the
partials the devices send each other, and the sums.
-/
module

public import proofs.«01_k».proof.Proof.Slots

@[expose] public section

set_option maxRecDepth 16384

noncomputable section

namespace Cert.Steps

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-- The distance from a device to another, less one. -/
def dist (s t : Dev nD) : Fin 7 := Fin.ofNat 7 ((t.val + 15 - s.val) % 8)

theorem dist_peer (c : Dev nD) (r : Fin 7) : dist c (peer c r) = r := by revert c r; decide +kernel
theorem dist_peer_rev (c : Dev nD) (r : Fin 7) : dist (peer c r) c = r.rev := by revert c r; decide +kernel

/-- The kernel's inputs at every device: the activation block, and each layer's two weights. -/
structure Ins (F : FTy → Type) : Type where
  /-- The activation block. -/
  x : Dev nD → FVec F S64x512 .bf16
  /-- A layer's columns of the first weight. -/
  wi : ℕ → Dev nD → FVec F S512x1024 .bf16
  /-- A layer's rows of the second weight. -/
  wo : ℕ → Dev nD → FVec F S1024x512 .bf16

/-- The partials of the blocks at distances 0, 7, 6, 5. -/
def part1 (wi : FVec F S512x1024 .bf16) (wo : FVec F S1024x512 .bf16) (X : Dev nD → FVec F S64x512 .bf16) (c : Dev nD) : FVec F S256x512 .f32 :=
  chunk wi wo (X c) (X (peer c 6)) (X (peer c 5)) (X (peer c 4))
/-- The partials of the blocks at distances 4, 3, 2, 1. -/
def part2 (wi : FVec F S512x1024 .bf16) (wo : FVec F S1024x512 .bf16) (X : Dev nD → FVec F S64x512 .bf16) (c : Dev nD) : FVec F S256x512 .f32 :=
  chunk wi wo (X (peer c 3)) (X (peer c 2)) (X (peer c 1)) (X (peer c 0))

/-- The partial of the block at distance `1 + r`. -/
def part (wi : FVec F S512x1024 .bf16) (wo : FVec F S1024x512 .bf16) (X : Dev nD → FVec F S64x512 .bf16) (c : Dev nD) : Fin 7 → FVec F S64x512 .f32
  | 6 => row1 (part1 wi wo X c) | 5 => row2 (part1 wi wo X c) | 4 => row3 (part1 wi wo X c)
  | 3 => row0 (part2 wi wo X c) | 2 => row1 (part2 wi wo X c) | 1 => row2 (part2 wi wo X c) | 0 => row3 (part2 wi wo X c)

/-- A device's own partial with the peers' added in order of distance. -/
def total (wi : Dev nD → FVec F S512x1024 .bf16) (wo : Dev nD → FVec F S1024x512 .bf16) (X : Dev nD → FVec F S64x512 .bf16) (c : Dev nD) : FVec F S64x512 .f32 :=
  [0, 1, 2, 3, 4, 5, 6].foldl (fun a r => accAdd a (rnd (part (wi (peer c r)) (wo (peer c r)) X (peer c r) (Fin.rev r)))) (row0 (part1 (wi c) (wo c) X c))

/-- Every device's activation block before layer `l`. -/
def Xs (I : Ins F) : ℕ → Dev nD → FVec F S64x512 .bf16
  | 0, c => I.x c
  | l + 1, c => rnd (total (I.wi l) (I.wo l) (Xs I l) c)
/-- The sum layer `l` ends with. -/
def As (I : Ins F) (l : ℕ) (c : Dev nD) : FVec F S64x512 .f32 := total (I.wi l) (I.wo l) (Xs I l) c
/-- The partial device `s` sends to device `t` in layer `l`. -/
def Ps (I : Ins F) (l : ℕ) (s t : Dev nD) : FVec F S64x512 .bf16 := rnd (part (I.wi l s) (I.wo l s) (Xs I l) s (dist s t))

theorem Xs_succ (I : Ins F) (l : ℕ) (c : Dev nD) : Xs I (l + 1) c = rnd (As I l c) := rfl
theorem Ps_peer (I : Ins F) (l : ℕ) (c : Dev nD) (r : Fin 7) : Ps I l c (peer c r) = rnd (part (I.wi l c) (I.wo l c) (Xs I l) c r) := by
  unfold Ps; rw [dist_peer]
theorem As_eq (I : Ins F) (l : ℕ) (c : Dev nD) :
    As I l c = [0, 1, 2, 3, 4, 5, 6].foldl (fun a r => accAdd a (Ps I l (peer c r) c)) (row0 (part1 (I.wi l c) (I.wo l c) (Xs I l) c)) := by
  unfold As total
  refine congrArg (fun f => List.foldl f _ _) (funext fun a => funext fun r => ?_)
  unfold Ps
  rw [dist_peer_rev]

end Cert.Steps

end
-- ==== Proof.Sched.lean ====
/-
The protocol of the kernel's transfers: what every semaphore's raises carry, who owes them and in which order, and
the levels that keep the waits from waiting on one another.
-/
module

public import proofs.«01_k».proof.Proof.Contents
public import Idealize.ShloMosaic.Lib.Pipeline.Launch
public import Idealize.ShloMosaic.Lib.Pipeline.Kit
public import Idealize.ShloMosaic.Lib.ShareLeaves
public import Idealize.ShloMosaic.Lib.Tactic

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds and this protocol's, whose duties are named by the paying device. -/
abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells and slots -/

/-- Device `c`'s DMA cell of array `a` at peer `t`, and its barrier cell. -/
abbrev cell (a : Fin 4) (c t : Dev nD) : GSem nD τ sig := ((c : Thread nD τ), .dma (qs a t))
abbrev barCell (c : Dev nD) : GSem nD τ sig := ((c : Thread nD τ), .reg barS)

/-- The units a transfer of a block raises its semaphores by. -/
abbrev N : ℕ := (slotAt xB 0).view.dmaCredit
theorem N_pos : 0 < N := View.dmaCredit_pos _ (by decide)

/-- Slot `k` of device `c`'s activations, outgoing partials, incoming partials. -/
def xslot (c k : Dev nD) (q : PosShare TreeShare) (f : S8x64x512.Idx → Elt F .bf16) : sProp 𝕄 :=
  ((c : Thread nD τ).loc cc0_scratch0) ↦[slotSet k]{q} f
def pslot (c k : Dev nD) (f : S8x64x512.Idx → Elt F .bf16) : sProp 𝕄 :=
  ((c : Thread nD τ).loc cc0_scratch1) ↦[slotSet k]{fullShare} f
def rslot (c k : Dev nD) (f : S8x64x512.Idx → Elt F .bf16) : sProp 𝕄 :=
  ((c : Thread nD τ).loc cc0_scratch2) ↦[slotSet k]{fullShare} f
/-- The same, at some contents. -/
def xfree (c k : Dev nD) : sProp 𝕄 := iprop(∃ f, xslot (F := F) c k fullShare f)
def pfree (c k : Dev nD) : sProp 𝕄 := iprop(∃ f, pslot (F := F) c k f)
def rfree (c k : Dev nD) : sProp 𝕄 := iprop(∃ f, rslot (F := F) c k f)

omit [FloatOps F] in
instance (c k : Dev nD) (q) (f) : BI.Storable (upEmb : UEmb _ 𝕄) (xslot (F := F) c k q f) := by unfold xslot; infer_instance
omit [FloatOps F] in
instance (c k : Dev nD) (f) : BI.Storable (upEmb : UEmb _ 𝕄) (pslot (F := F) c k f) := by unfold pslot; infer_instance
omit [FloatOps F] in
instance (c k : Dev nD) (f) : BI.Storable (upEmb : UEmb _ 𝕄) (rslot (F := F) c k f) := by unfold rslot; infer_instance
omit [FloatOps F] in
instance (c k : Dev nD) : BI.Storable (upEmb : UEmb _ 𝕄) (xfree (F := F) c k) := by unfold xfree; infer_instance
omit [FloatOps F] in
instance (c k : Dev nD) : BI.Storable (upEmb : UEmb _ 𝕄) (pfree (F := F) c k) := by unfold pfree; infer_instance
omit [FloatOps F] in
instance (c k : Dev nD) : BI.Storable (upEmb : UEmb _ 𝕄) (rfree (F := F) c k) := by unfold rfree; infer_instance

/-- The share of its own block a device lends to its transfer to `t`. -/
def lf (t : Dev nD) : PosShare TreeShare := ShareLeaves.leaf 3 fullShare (Fin.cast (by decide) t)

/-! ## The schedule -/

variable (I : Ins F)

/-- What `d`'s signal hands `c`: the slot of `d`'s activations that `c`'s block will land in. -/
def barPay (c d : Dev nD) : sProp 𝕄 := xfree (F := F) d c
/-- What the end of `c`'s send of its block to `d` hands back. -/
def agSPay (c : Dev nD) (l : ℕ) (d : Dev nD) : sProp 𝕄 := xslot c c (lf d) (bufOf (Xs I l c))
/-- What the arrival of `d`'s block hands `c`: the block, and in a layer the slot of `d`'s incoming partials. -/
def agRPay (c : Dev nD) (l : ℕ) (d : Dev nD) : sProp 𝕄 :=
  iprop(xslot c d fullShare (bufOf (Xs I l d)) ∗ (if l < 3 then iprop(rfree (F := F) d c ∗ reached ER (cell 3 d c) l) else iprop(emp)))
/-- What the end of `c`'s send of a partial to `d` hands back. -/
def rsSPay (c : Dev nD) (l : ℕ) (d : Dev nD) : sProp 𝕄 := pslot c d (bufOf (Ps I l c d))
/-- What the arrival of `d`'s partial hands `c`: the partial, and the slot of `d`'s activations for the next exchange. -/
def rsRPay (c : Dev nD) (l : ℕ) (d : Dev nD) : sProp 𝕄 :=
  iprop(rslot c d (bufOf (Ps I l d c)) ∗ xfree (F := F) d c ∗ reached ER (cell 1 d c) (l + 1))

/-- The rounds array `a`'s cells run. -/
def rounds (q : DmaSem sig) (r : ℕ) : Prop := 8 ≤ q.val ∧ if q.val < 24 then r < 4 else r < 3
instance (q : DmaSem sig) (r : ℕ) : Decidable (rounds q r) := by unfold rounds; infer_instance

/-- The peer a DMA semaphore's cell is for. -/
def pr (q : DmaSem sig) : Dev nD := Fin.ofNat 8 (q.val % 8)

/-- The protocol: a barrier cell has one duty of one unit per other device; a DMA cell one duty per round, its peer's. -/
def Rd : Rounds.Schedule (GSem nD τ sig) (Dev nD) 𝕄 where
  duties g r := if g.1.2 = .tc then
      (match g.2 with
        | .reg _ => if r = 0 then Finset.univ.erase g.1.1 else ∅
        | .dma q => if rounds q r ∧ pr q ≠ g.1.1 then {pr q} else ∅)
    else ∅
  unitless _ := False
  amount g _ _ := match g.2 with
    | .reg _ => 1
    | .dma _ => N
  payload g r d := match g.2 with
    | .reg _ => barPay g.1.1 d
    | .dma q => if q.val < 16 then agSPay I g.1.1 r d else if q.val < 24 then agRPay I g.1.1 r d
      else if q.val < 32 then rsSPay I g.1.1 r d else rsRPay I g.1.1 r d
  amount_pos g _ _ _ := by
    cases g.2 with
    | reg _ => exact Nat.one_pos
    | dma _ => exact N_pos

instance Rd_storable (g : GSem nD τ sig) (r : ℕ) (d : Dev nD) :
    BI.Storable (upEmb : UEmb _ 𝕄) ((Rd (F := F) I).payload g r d) := by
  dsimp only [Rd]
  unfold barPay agSPay agRPay rsSPay rsRPay
  (repeat' split) <;> infer_instance

section Facts
variable (c t : Dev nD)

theorem pr_qs (a : Fin 4) (t : Dev nD) : pr (qs a t) = t := by revert a t; decide +kernel
theorem rounds_ag (l : ℕ) (h : l < 4) : rounds (qs 0 t) l ∧ rounds (qs 1 t) l := by
  have ht : t.val < 8 := t.isLt
  unfold rounds qs
  constructor
  · refine ⟨by show 8 ≤ 8 + 8 * 0 + t.val; omega, ?_⟩; rw [if_pos (by show 8 + 8 * 0 + t.val < 24; omega)]; exact h
  · refine ⟨by show 8 ≤ 8 + 8 * 1 + t.val; omega, ?_⟩; rw [if_pos (by show 8 + 8 * 1 + t.val < 24; omega)]; exact h
theorem rounds_rs (l : ℕ) (h : l < 3) : rounds (qs 2 t) l ∧ rounds (qs 3 t) l := by
  have ht : t.val < 8 := t.isLt
  unfold rounds qs
  constructor
  · refine ⟨by show 8 ≤ 8 + 8 * 2 + t.val; omega, ?_⟩; rw [if_neg (by show ¬ 8 + 8 * 2 + t.val < 24; omega)]; exact h
  · refine ⟨by show 8 ≤ 8 + 8 * 3 + t.val; omega, ?_⟩; rw [if_neg (by show ¬ 8 + 8 * 3 + t.val < 24; omega)]; exact h

theorem duties_bar : (Rd I).duties (barCell c) 0 = Finset.univ.erase c := by
  dsimp only [Rd]; rw [if_pos rfl, if_pos rfl]
theorem duties_cell (a : Fin 4) (l : ℕ) (h : rounds (qs a t) l) (hne : t ≠ c) : (Rd I).duties (cell a c t) l = {t} := by
  dsimp only [Rd]; rw [if_pos rfl, pr_qs, if_pos ⟨h, hne⟩]
theorem duties_own (a : Fin 4) (l : ℕ) : (Rd I).duties (cell a c c) l = ∅ := by
  dsimp only [Rd]; rw [if_pos rfl, pr_qs, if_neg fun h => h.2 rfl]
theorem duties_late (a : Fin 4) (l : ℕ) (h : ¬ rounds (qs a t) l) : (Rd I).duties (cell a c t) l = ∅ := by
  dsimp only [Rd]; rw [if_pos rfl, if_neg fun h' => h h'.1]
theorem duties_bar_late (l : ℕ) (h : 1 ≤ l) : (Rd I).duties (barCell c) l = ∅ := by
  dsimp only [Rd]; rw [if_pos rfl, if_neg (by omega)]

theorem amount_bar (l : ℕ) (d : Dev nD) : (Rd I).amount (barCell c) l d = 1 := rfl
theorem amount_cell (a : Fin 4) (l : ℕ) (d : Dev nD) : (Rd I).amount (cell a c t) l d = N := rfl

theorem expect_bar : (Rd I).expect (barCell c) 0 = 7 := by
  unfold Schedule.expect Schedule.amountOf
  rw [duties_bar, Finset.sum_congr rfl fun d _ => amount_bar I c 0 d, Finset.sum_const, Finset.card_erase_of_mem (Finset.mem_univ _)]
  rfl
theorem expect_cell (a : Fin 4) (l : ℕ) (h : rounds (qs a t) l) (hne : t ≠ c) : (Rd I).expect (cell a c t) l = N := by
  unfold Schedule.expect Schedule.amountOf; rw [duties_cell I c t a l h hne, Finset.sum_singleton, amount_cell]

theorem payload_bar (l : ℕ) (d : Dev nD) : (Rd I).payload (barCell c) l d = barPay c d := rfl
theorem payload_agS (l : ℕ) (d : Dev nD) : (Rd I).payload (cell 0 c t) l d = agSPay I c l d := by
  have ht : t.val < 8 := t.isLt
  dsimp only [Rd]; exact if_pos (by show 8 + 8 * 0 + t.val < 16; omega)
theorem payload_agR (l : ℕ) (d : Dev nD) : (Rd I).payload (cell 1 c t) l d = agRPay I c l d := by
  have ht : t.val < 8 := t.isLt
  dsimp only [Rd]
  rw [if_neg (by show ¬ 8 + 8 * 1 + t.val < 16; omega)]; exact if_pos (by show 8 + 8 * 1 + t.val < 24; omega)
theorem payload_rsS (l : ℕ) (d : Dev nD) : (Rd I).payload (cell 2 c t) l d = rsSPay I c l d := by
  have ht : t.val < 8 := t.isLt
  dsimp only [Rd]
  rw [if_neg (by show ¬ 8 + 8 * 2 + t.val < 16; omega), if_neg (by show ¬ 8 + 8 * 2 + t.val < 24; omega)]
  exact if_pos (by show 8 + 8 * 2 + t.val < 32; omega)
theorem payload_rsR (l : ℕ) (d : Dev nD) : (Rd I).payload (cell 3 c t) l d = rsRPay I c l d := by
  have ht : t.val < 8 := t.isLt
  dsimp only [Rd]
  rw [if_neg (by show ¬ 8 + 8 * 3 + t.val < 16; omega), if_neg (by show ¬ 8 + 8 * 3 + t.val < 24; omega)]
  exact if_neg (by show ¬ 8 + 8 * 3 + t.val < 32; omega)

/-- What is left of a DMA cell's round, nothing taken: the payload of its one duty. -/
theorem rest_cell (a : Fin 4) (l : ℕ) (h : rounds (qs a t) l) (hne : t ≠ c) :
    bigSep ((Rd I).duties (cell a c t) l \ ∅) (fun d => (Rd I).payload (cell a c t) l d) = (Rd I).payload (cell a c t) l t := by
  rw [Finset.sdiff_empty, duties_cell I c t a l h hne, bigSep_singleton]

end Facts

/-! ## Levels and what is owed -/

/-- A cell's levels: barriers at 1; arrivals of blocks and of partials in the order of the rounds; sends at 0. -/
def lv (g : GSem nD τ sig) (i : ℕ) : ℕ := match g.2 with
  | .reg _ => 1
  | .dma q => if q.val < 16 then 0 else if q.val < 24 then 2 + 2 * i else if q.val < 32 then 0 else 3 + 2 * i
def L (g : GSem nD τ sig) : Finset ℕ := if g.1.2 = .tc then Finset.range 4 else ∅

theorem L_of_ne (g : GSem nD τ sig) (h : g.1.2 ≠ .tc) : L g = ∅ := if_neg h
theorem L_tc (g : GSem nD τ sig) (h : g.1.2 = .tc) : L g = Finset.range 4 := if_pos h

theorem lv_bar (c : Dev nD) (i : ℕ) : lv (barCell c) i = 1 := rfl
theorem lv_agS (c t : Dev nD) (i : ℕ) : lv (cell 0 c t) i = 0 := by
  have ht : t.val < 8 := t.isLt
  dsimp only [lv]; exact if_pos (by show 8 + 8 * 0 + t.val < 16; omega)
theorem lv_agR (c t : Dev nD) (i : ℕ) : lv (cell 1 c t) i = 2 + 2 * i := by
  have ht : t.val < 8 := t.isLt
  dsimp only [lv]
  rw [if_neg (by show ¬ 8 + 8 * 1 + t.val < 16; omega)]; exact if_pos (by show 8 + 8 * 1 + t.val < 24; omega)
theorem lv_rsS (c t : Dev nD) (i : ℕ) : lv (cell 2 c t) i = 0 := by
  have ht : t.val < 8 := t.isLt
  dsimp only [lv]
  rw [if_neg (by show ¬ 8 + 8 * 2 + t.val < 16; omega), if_neg (by show ¬ 8 + 8 * 2 + t.val < 24; omega)]
  exact if_pos (by show 8 + 8 * 2 + t.val < 32; omega)
theorem lv_rsR (c t : Dev nD) (i : ℕ) : lv (cell 3 c t) i = 3 + 2 * i := by
  have ht : t.val < 8 := t.isLt
  dsimp only [lv]
  rw [if_neg (by show ¬ 8 + 8 * 3 + t.val < 16; omega), if_neg (by show ¬ 8 + 8 * 3 + t.val < 24; omega)]
  exact if_neg (by show ¬ 8 + 8 * 3 + t.val < 32; omega)

/-- A payment owed: the cell, the round as index, the units. -/
abbrev Pay : Type := GSem nD τ sig × ℕ × ℕ
/-- What a list of payments still to make owes, the next one the last summand. -/
def owedL : List Pay → CellTallies nD τ sig ℕ
  | [] => 0
  | p :: ps => owedL ps + tallyAt p.1 p.2.1 p.2.2

/-- Every payment of the list sits above level `b`. -/
def Above (b : ℕ) (ps : List Pay) : Prop := ∀ p ∈ ps, p.1.1.2 = .tc ∧ p.2.1 < 4 ∧ b < lv p.1 p.2.1

theorem Above.mono {b b' : ℕ} {ps : List Pay} (h : Above b ps) (hb : b' ≤ b) : Above b' ps :=
  fun p hp => ⟨(h p hp).1, (h p hp).2.1, lt_of_le_of_lt hb (h p hp).2.2⟩
theorem Above.append {b : ℕ} {ps qs : List Pay} (h : Above b ps) (h' : Above b qs) : Above b (ps ++ qs) :=
  fun p hp => (List.mem_append.mp hp).elim (h p) (h' p)
theorem Above.tail {b : ℕ} {p : Pay} {ps : List Pay} (h : Above b (p :: ps)) : Above b ps := fun q hq => h q (List.mem_cons_of_mem _ hq)
theorem Above.nil {b : ℕ} : Above b [] := fun p hp => absurd hp List.not_mem_nil

theorem owedL_pos {ps : List Pay} {g : GSem nD τ sig} {i : ℕ} (h : 0 < owedL ps g i) : ∃ p ∈ ps, g = p.1 ∧ i = p.2.1 := by
  induction ps with
  | nil => exact absurd h (Nat.lt_irrefl 0)
  | cons p ps ih =>
    unfold owedL at h
    rw [Pi.add_apply, Finsupp.add_apply, tallyAt_apply] at h
    by_cases hc : g = p.1 ∧ i = p.2.1
    · exact ⟨p, List.mem_cons_self, hc⟩
    · rw [if_neg hc] at h
      obtain ⟨q, hq, e⟩ := ih h
      exact ⟨q, List.mem_cons_of_mem _ hq, e⟩

omit [FloatOps F] in
/-- A device may wait on a cell whose level is not above those of the payments it owes. -/
theorem mayWait (c : Dev nD) (sm : SemLoc sig) (i b : ℕ) (ps : List Pay) (hi : i < 4) (hl : lv ((c : Thread nD τ), sm) i ≤ b) (h : Above b ps) :
    (levAts L lv : sProp 𝕄) ⊢ MayWait (c : Thread nD τ) sm i (owedL ps) :=
  MayOwe.of_cut (L := L) (lev := lv) b (fun p hp => by rw [Finset.mem_singleton.mp hp, L_tc _ rfl]; exact Finset.mem_range.mpr hi)
    (fun g u hg => by
      obtain ⟨p, hp, rfl, rfl⟩ := owedL_pos hg
      rw [L_tc _ (h p hp).1]; exact Finset.mem_range.mpr (h p hp).2.1)
    (fun p hp => by rw [Finset.mem_singleton.mp hp]; exact hl)
    (fun g u hg => by
      obtain ⟨p, hp, rfl, rfl⟩ := owedL_pos hg
      exact (h p hp).2.2)

/-- The payments of the barrier, of the exchange of round `l`, of the partials of layer `l`. -/
def payBar (c : Dev nD) (r : Fin 7) : Pay := (barCell (peer c r), 0, 1)
def payAg (c : Dev nD) (l : ℕ) (r : Fin 7) : Pay := (cell 1 (peer c r) c, l, N)
def payRs (c : Dev nD) (l : ℕ) (r : Fin 7) : Pay := (cell 3 (peer c r) c, l, N)

/-- The distances up and down. -/
abbrev up : List (Fin 7) := [0, 1, 2, 3, 4, 5, 6]
abbrev dn : List (Fin 7) := [6, 5, 4, 3, 2, 1, 0]

/-- The payments of a layer, of the layers from `l` on with the last exchange, of the whole program. -/
def payL (c : Dev nD) (l : ℕ) : List Pay := up.map (payAg c l) ++ dn.map (payRs c l)
def pays (c : Dev nD) : ℕ → List Pay
  | 0 => up.map (payAg c 3)
  | k + 1 => payL c (2 - k) ++ pays c k
def payAll (c : Dev nD) : List Pay := up.map (payBar c) ++ pays c 3

theorem above_ag (c : Dev nD) (l b : ℕ) (rs : List (Fin 7)) (hl : l < 4) (hb : b < 2 + 2 * l) : Above b (rs.map (payAg c l)) := fun p hp => by
  obtain ⟨r, -, rfl⟩ := List.mem_map.mp hp
  exact ⟨rfl, hl, by dsimp only [payAg]; rw [lv_agR]; exact hb⟩
theorem above_rs (c : Dev nD) (l b : ℕ) (rs : List (Fin 7)) (hl : l < 4) (hb : b < 3 + 2 * l) : Above b (rs.map (payRs c l)) := fun p hp => by
  obtain ⟨r, -, rfl⟩ := List.mem_map.mp hp
  exact ⟨rfl, hl, by dsimp only [payRs]; rw [lv_rsR]; exact hb⟩
theorem above_bar (c : Dev nD) (rs : List (Fin 7)) : Above 0 (rs.map (payBar c)) := fun p hp => by
  obtain ⟨r, -, rfl⟩ := List.mem_map.mp hp
  exact ⟨rfl, Nat.succ_pos 3, Nat.one_pos⟩
theorem above_pays (c : Dev nD) (k : ℕ) (hk : k ≤ 3) : Above (7 - 2 * k) (pays c k) := by
  induction k with
  | zero => exact above_ag c 3 _ up (by decide) (by decide)
  | succ k ih =>
    refine Above.append (Above.append (above_ag c _ _ up (by omega) (by omega)) (above_rs c _ _ dn (by omega) (by omega))) ((ih (by omega)).mono (by omega))
theorem above_payAll (c : Dev nD) : Above 0 (payAll c) := (above_bar c up).append ((above_pays c 3 le_rfl).mono (by decide))

end Cert.Steps

end
-- ==== Proof.Rules.lean ====
/-
One rule per step of the program: what a barrier signal, a send, a wait, a load and a store of a slot take and give
back, and a rule that runs a step over a list of distances.
-/
module

public import proofs.«01_k».proof.Proof.Sched

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The program `p` on device `c` ends with `Q`. -/
def runs {α : Type} (c : Dev nD) (p : KProg F α) (Q : α → sProp 𝕄) : sProp 𝕄 :=
  wp frame (wpE (defs₀ (F := F)) 𝒱₀ (c : Thread nD τ) none) Set.univ p Q

theorem runs_bind {α β : Type} (c : Dev nD) (p : KProg F α) (k : α → KProg F β) (K : β → sProp 𝕄) :
    runs c (p >>= k) K = runs c p fun x => runs c (k x) K := wp_bind _ _ _ p k K
theorem runs_ret {α : Type} (c : Dev nD) (x : α) (K : α → sProp 𝕄) : K x ⊢ runs c (Prog.ret x) K := le_wp_ret _ _ _ x K
theorem runs_pure {α : Type} (c : Dev nD) (x : α) (K : α → sProp 𝕄) : K x ⊢ runs c (pure x) K := runs_ret c x K

/-! ## Assertions over a list of distances -/

/-- `Φ` at every element of a list. -/
def SL {α : Type} (l : List α) (Φ : α → sProp 𝕄) : sProp 𝕄 := match l with
  | [] => iprop(emp)
  | r :: l => iprop(Φ r ∗ SL l Φ)

omit [FloatOps F] in
theorem SL_nil {α : Type} (Φ : α → sProp 𝕄) : SL (F := F) [] Φ = iprop(emp) := rfl
omit [FloatOps F] in
theorem SL_cons {α : Type} (r : α) (l : List α) (Φ : α → sProp 𝕄) : SL (F := F) (r :: l) Φ = iprop(Φ r ∗ SL l Φ) := rfl
omit [FloatOps F] in
theorem SL_append {α : Type} (l l' : List α) (Φ : α → sProp 𝕄) : SL (F := F) (l ++ l') Φ = iprop(SL l Φ ∗ SL l' Φ) := by
  induction l with
  | nil => rw [List.nil_append, SL_nil]; exact (Entails.antisymm (emp_sep (PROP := sProp 𝕄)).1 (emp_sep (PROP := sProp 𝕄)).2).symm
  | cons r l ih => rw [List.cons_append, SL_cons, SL_cons, ih]; exact (Entails.antisymm (sep_assoc (PROP := sProp 𝕄)).1 (sep_assoc (PROP := sProp 𝕄)).2).symm
omit [FloatOps F] in
theorem SL_map {α β : Type} (g : α → β) (l : List α) (Φ : β → sProp 𝕄) : SL (F := F) (l.map g) Φ = SL l fun r => Φ (g r) := by
  induction l with
  | nil => rfl
  | cons r l ih => rw [List.map_cons, SL_cons, SL_cons, ih]
omit [FloatOps F] in
theorem SL_set {α : Type} [DecidableEq α] (l : List α) (h : l.Nodup) (Φ : α → sProp 𝕄) : SL (F := F) l Φ = bigSep l.toFinset Φ := by
  induction l with
  | nil => rw [List.toFinset_nil, BI.bigSep_empty]; rfl
  | cons r l ih =>
    rw [List.nodup_cons] at h
    rw [SL_cons, List.toFinset_cons, BI.bigSep_insert (by rw [List.mem_toFinset]; exact h.1), ih h.2]
    rfl
omit [FloatOps F] in
theorem SL_congr {α : Type} (l : List α) {Φ Ψ : α → sProp 𝕄} (h : ∀ r, Φ r = Ψ r) : SL (F := F) l Φ = SL l Ψ := by rw [funext h]
omit [FloatOps F] in
theorem SL_mono {α : Type} (l : List α) {Φ Ψ : α → sProp 𝕄} (h : ∀ r, Φ r ⊢ Ψ r) : SL (F := F) l Φ ⊢ SL l Ψ := by
  induction l with
  | nil => exact BI.Entails.refl _
  | cons r l ih => rw [SL_cons, SL_cons]; exact BIClass.sep_mono (h r) ih
omit [FloatOps F] in
theorem SL_sep {α : Type} (l : List α) (Φ Ψ : α → sProp 𝕄) : SL (F := F) l (fun r => iprop(Φ r ∗ Ψ r)) = iprop(SL l Φ ∗ SL l Ψ) := by
  induction l with
  | nil => rw [SL_nil, SL_nil, SL_nil]; exact (Entails.antisymm (emp_sep (PROP := sProp 𝕄)).1 (emp_sep (PROP := sProp 𝕄)).2).symm
  | cons r l ih =>
    rw [SL_cons, SL_cons, SL_cons, ih]
    have h1 : iprop((Φ r ∗ Ψ r) ∗ SL l Φ ∗ SL l Ψ) ⊢ iprop((Φ r ∗ SL l Φ) ∗ Ψ r ∗ SL l Ψ) := by
      iintro ⟨⟨H1, H2⟩, H3, H4⟩
      isplitl [H1 H3]
      · isplitl [H1] <;> iassumption
      · isplitl [H2] <;> iassumption
    have h2 : iprop((Φ r ∗ SL l Φ) ∗ Ψ r ∗ SL l Ψ) ⊢ iprop((Φ r ∗ Ψ r) ∗ SL l Φ ∗ SL l Ψ) := by
      iintro ⟨⟨H1, H3⟩, H2, H4⟩
      isplitl [H1 H2]
      · isplitl [H1] <;> iassumption
      · isplitl [H3] <;> iassumption
    exact Entails.antisymm h1 h2
omit [FloatOps F] in
/-- The order of the distances does not matter. -/
theorem SL_dn (Φ : Fin 7 → sProp 𝕄) : SL (F := F) dn Φ = SL up Φ := by
  rw [SL_set dn (by decide), SL_set up (by decide)]; exact congrArg (fun s => bigSep s Φ) (by decide)
omit [FloatOps F] in
theorem SL_univ (Φ : Fin 7 → sProp 𝕄) : bigSep Finset.univ Φ = SL (F := F) up Φ := by
  rw [SL_set up (by decide)]; exact congrArg (fun s => bigSep s Φ) (by decide)
omit [FloatOps F] in
/-- An assertion at every device is that at `c` and at every distance from it. -/
theorem SL_dev (c : Dev nD) (Φ : Dev nD → sProp 𝕄) : bigSep Finset.univ Φ = iprop(Φ c ∗ SL (F := F) up fun r => Φ (peer c r)) := by
  rw [← SL_map (peer c) up Φ, ← SL_cons c, SL_set _ (by revert c; decide +kernel)]
  exact congrArg (fun s => bigSep s Φ) (by revert c; decide +kernel)
omit [FloatOps F] in
theorem SL_others (c : Dev nD) (Φ : Dev nD → sProp 𝕄) : bigSep (Finset.univ.erase c) Φ = SL (F := F) up fun r => Φ (peer c r) := by
  rw [← SL_map (peer c) up Φ, SL_set _ (by revert c; decide +kernel)]
  exact congrArg (fun s => bigSep s Φ) (by revert c; decide +kernel)

/-- Run a step at every distance of a list: `R` is what the steps share, `A r` what the step at `r` takes, `B r` what it gives. -/
theorem runs_each (c : Dev nD) (f : Fin 7 → KProg F PUnit) (A B : Fin 7 → sProp 𝕄) (R : List (Fin 7) → sProp 𝕄)
    (h : ∀ r l (K : PUnit → sProp 𝕄), iprop(A r ∗ R (r :: l)) ⊢ iprop(((B r ∗ R l) -∗ K ⟨⟩) -∗ runs c (f r) K)) (l : List (Fin 7)) (K : PUnit → sProp 𝕄) :
    iprop(SL l A ∗ R l) ⊢ iprop(((SL l B ∗ R []) -∗ K ⟨⟩) -∗ runs c (each l f) K) := by
  induction l generalizing K with
  | nil =>
    iintro ⟨H1, H2⟩ Hk
    unfold each
    rw [SL_nil, SL_nil]
    iapply (runs_pure c _ K)
    iapply Hk
    isplitr [H2]
    · iempintro
    iexact H2
  | cons r l ih =>
    unfold each
    rw [SL_cons, SL_cons, runs_bind]
    iintro ⟨⟨H1, H2⟩, H3⟩ Hk
    iapply (h r l _) $$ [H1 H3]
    · isplitl [H1] <;> iassumption
    iintro ⟨HB, HR⟩
    iapply (ih K) $$ [H2 HR]
    · isplitl [H2] <;> iassumption
    iintro ⟨HBs, HR⟩
    iapply Hk
    isplitl [HB HBs]
    · isplitl [HB] <;> iassumption
    iexact HR

/-! ## What every device knows -/

variable (I : Ins F)

omit [FloatOps F] in
/-- One of a family's assertions. -/
theorem bigSep_one {α : Type} [DecidableEq α] {s : Finset α} {i : α} (h : i ∈ s) (Φ : α → sProp 𝕄) : (bigSep s Φ : sProp 𝕄) ⊢ Φ i :=
  BI.bigSep_elim h

/-- A cell runs the protocol. -/
def inv (g : GSem nD τ sig) : sProp 𝕄 := iprop(∃ κ, cellInv ER (Rd I) κ g)
instance (g : GSem nD τ sig) : BI.Persistent (inv I g) := by unfold inv; infer_instance
/-- A cell runs the protocol and is at round 0 or later. -/
def known (g : GSem nD τ sig) : sProp 𝕄 := iprop(inv I g ∗ reached ER g 0)
instance (g : GSem nD τ sig) : BI.Persistent (known I g) := by unfold known; infer_instance
/-- Every cell runs the protocol; the levels. -/
def recs : sProp 𝕄 :=
  iprop((levAts L lv : sProp 𝕄) ∗ bigSep Finset.univ (fun c : Dev nD => known I (barCell c))
    ∗ bigSep Finset.univ (fun p : Dev nD × Fin 4 × Dev nD => known I (cell p.2.1 p.1 p.2.2)))
instance : BI.Persistent (recs I) := by unfold recs; infer_instance

theorem recs_lev : recs I ⊢ (levAts L lv : sProp 𝕄) := by
  unfold recs; iintro ⟨H, -, -⟩; iexact H
theorem recs_bar (c : Dev nD) : recs I ⊢ known I (barCell c) := by
  unfold recs
  iintro ⟨-, H, -⟩
  iapply (bigSep_one (Finset.mem_univ c) (fun c : Dev nD => known I (barCell c))) $$ H
theorem recs_cell (a : Fin 4) (c t : Dev nD) : recs I ⊢ known I (cell a c t) := by
  unfold recs
  iintro ⟨-, -, H⟩
  iapply (bigSep_one (Finset.mem_univ (c, a, t)) (fun p : Dev nD × Fin 4 × Dev nD => known I (cell p.2.1 p.1 p.2.2))) $$ H

/-- Device `c` still owes the payments of the list. -/
def ow (c : Dev nD) (ps : List Pay) : sProp 𝕄 := iprop(∃ W, owes (c : Thread nD τ) (owedL ps) W)

/-! ## Loads and stores -/

section Access
omit [FloatOps F]
variable [FloatOps F]

/-- A load's rectangle respelt. -/
theorem ld_off (m : Memref sig .tc .vmem S8x64x512 .bf16) {off : Fin 3 → ℕ} (k : Dev nD) (h : off = ![k.val, 0, 0])
    (inb : ∀ a : Fin 3, off a + S1x64x512.size a ≤ S8x64x512.size a) (hl : m.view.LoadsAt (Rect.unit (s := S8x64x512) off S1x64x512.size inb).toLoadRect) :
    (Prog.lift (.load m (Rect.unit (s := S8x64x512) off S1x64x512.size inb).toLoadRect hl) : KProg F (Vec F S1x64x512 .bf16))
      = Prog.lift (.load m (slotR k).toLoadRect (View.loadsAt_vmem h_S1x64x512)) := by
  subst h; rfl
/-- A store's rectangle respelt. -/
theorem st_off (m : Memref sig .tc .vmem S8x64x512 .bf16) {off : Fin 3 → ℕ} (k : Dev nD) (h : off = ![k.val, 0, 0])
    (inb : ∀ a : Fin 3, off a + S1x64x512.size a ≤ S8x64x512.size a) (v : FVec F S1x64x512 .bf16)
    (hx : (m.access (Rect.unit (s := S8x64x512) off S1x64x512.size inb)).Stores Finset.univ) :
    ∃ hx', (Prog.lift (.store m (Rect.unit (s := S8x64x512) off S1x64x512.size inb) v Finset.univ hx (.inl rfl)) : KProg F PUnit)
      = Prog.lift (.store m (slotR k) v Finset.univ hx' (.inl rfl)) := by
  subst h; exact ⟨hx, rfl⟩

/-- A load of a slot of the activations. -/
theorem runs_ldX (c k : Dev nD) (r : Fin 8) (h : peer0 c r = k) (q : PosShare TreeShare) (X : FVec F S64x512 .bf16) (K : Vec F S1x64x512 .bf16 → sProp 𝕄) :
    xslot c k q (bufOf X) ⊢ iprop((xslot c k q (bufOf X) -∗ K ((xB.access (slotR k)).read (Elt F) (bufOf X))) -∗ runs c (ldS xB c r) K) := by
  subst h
  unfold ldS
  rw [ld_off xB _ (off6_eq c r)]
  unfold xslot runs Prog.lift
  iintro H Hk
  iapply (wp_load_rect 𝒱₀ (c : Thread nD τ) none Set.univ (m := xB) (r := slotR (peer0 c r)) (S := slotSet (peer0 c r)) (acc_xB _).le) $$ H
  iintro H
  rw [wp_ret]; imodintro
  iapply Hk
  iexact H

/-- A load of a slot of the incoming partials. -/
theorem runs_ldR (c k : Dev nD) (r : Fin 8) (h : peer0 c r = k) (X : FVec F S64x512 .bf16) (K : Vec F S1x64x512 .bf16 → sProp 𝕄) :
    rslot c k (bufOf X) ⊢ iprop((rslot c k (bufOf X) -∗ K ((rB.access (slotR k)).read (Elt F) (bufOf X))) -∗ runs c (ldS rB c r) K) := by
  subst h
  unfold ldS
  rw [ld_off rB _ (off6_eq c r)]
  unfold rslot runs Prog.lift
  iintro H Hk
  iapply (wp_load_rect 𝒱₀ (c : Thread nD τ) none Set.univ (m := rB) (r := slotR (peer0 c r)) (S := slotSet (peer0 c r)) (acc_rB _).le) $$ H
  iintro H
  rw [wp_ret]; imodintro
  iapply Hk
  iexact H

/-- A store of a slot of the outgoing partials. -/
theorem runs_stP (c k : Dev nD) (r : Fin 8) (h : peer0 c r = k) (X : FVec F S64x512 .bf16) (K : PUnit → sProp 𝕄) :
    pfree c k ⊢ iprop((pslot c k (bufOf X) -∗ K ⟨⟩) -∗ runs c (stP c r (asS X)) K) := by
  subst h
  unfold stP ldS
  rw [ld_off pB _ (off6_eq c r)]
  obtain ⟨hx', e⟩ := st_off pB _ (off6_eq c r) (k0_off6_inb c r) (asS X) (View.stores_vmem h_S1x64x512 (hpB.storeExact_slice rfl _ (k0_off6_packedbf16 c r)) (fun _ => rfl))
  rw [e, runs_bind]
  unfold pfree pslot runs Prog.lift
  iintro ⟨%f, H⟩ Hk
  iapply (wp_load_rect 𝒱₀ (c : Thread nD τ) none Set.univ (m := pB) (r := slotR (peer0 c r)) (S := slotSet (peer0 c r)) (acc_pB _).le) $$ H
  iintro H
  rw [wp_ret]; imodintro
  iapply (wp_store 𝒱₀ (c : Thread nD τ) none Set.univ (m := pB) (r := slotR (peer0 c r)) (Mk := Finset.univ) (S := slotSet (peer0 c r)) (acc_pB _).le) $$ H
  iintro H
  rw [wp_ret]; imodintro
  iapply Hk
  ihave H := (Entails.of_eq (pointsTo_congr (store_pB (peer0 c r) f X))) $$ H
  iexact H

/-- A store of a device's own slot of the activations. -/
theorem runs_stX (c : Dev nD) (X : FVec F S64x512 .bf16) (K : PUnit → sProp 𝕄) :
    xfree c c ⊢ iprop((xslot c c fullShare (bufOf X) -∗ K ⟨⟩) -∗ runs c (stX c (asS X)) K) := by
  unfold stX
  rw [ld_off xB _ (k0_off1_eq c)]
  obtain ⟨hx', e⟩ := st_off xB _ (k0_off1_eq c) (k0_off1_inb c) (asS X) (View.stores_vmem h_S1x64x512 (hxB.storeExact_slice rfl _ (k0_off1_packedbf16 c)) (fun _ => rfl))
  rw [e, runs_bind]
  unfold xfree xslot runs Prog.lift
  iintro ⟨%f, H⟩ Hk
  iapply (wp_load_rect 𝒱₀ (c : Thread nD τ) none Set.univ (m := xB) (r := slotR c) (S := slotSet c) (acc_xB _).le) $$ H
  iintro H
  rw [wp_ret]; imodintro
  iapply (wp_store 𝒱₀ (c : Thread nD τ) none Set.univ (m := xB) (r := slotR c) (Mk := Finset.univ) (S := slotSet c) (acc_xB _).le) $$ H
  iintro H
  rw [wp_ret]; imodintro
  iapply Hk
  ihave H := (Entails.of_eq (pointsTo_congr (store_xB c f X))) $$ H
  iexact H

end Access

end Cert.Steps

end
-- ==== Proof.Transfers.lean ====
/-
The rules of the program's signals, waits and sends: what each takes and gives back under the protocol.
-/
module

public import proofs.«01_k».proof.Proof.Rules

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## Signals and the barrier -/

/-- What the arrival of `c`'s block of round `l` hands `t` besides the block. -/
def hand (c t : Dev nD) (l : ℕ) : sProp 𝕄 := if l < 3 then iprop(rfree (F := F) c t ∗ reached ER (cell 3 c t) l) else iprop(emp)

/-- A signal of a peer's barrier. -/
theorem runs_barSig (c : Dev nD) (r : Fin 7) (ps : List Pay) (K : PUnit → sProp 𝕄) :
    iprop(recs I ∗ dutyTok ER (barCell (peer c r)) 0 c ∗ xfree c (peer c r) ∗ ow c (payBar c r :: ps))
      ⊢ iprop((ow c ps -∗ K ⟨⟩) -∗ runs c (barSig c r) K) := by
  unfold barSig semSignalWord
  rw [barDev_eq]
  have hd : c ∈ (Rd I).duties (barCell (peer c r)) 0 := by
    rw [duties_bar]; exact Finset.mem_erase.mpr ⟨fun h => peer_ne c r h.symm, Finset.mem_univ _⟩
  unfold ow runs
  iintro ⟨#HR, Htok, Hx, %W, HL⟩ Hk
  ihave #Hkn := (recs_bar I (peer c r)) $$ HR
  unfold known inv
  icases Hkn with ⟨⟨%κ, #Hi⟩, #Hr⟩
  iapply (Rounds.wp_signal 𝒱₀ ER (Rd I) (c : Thread nD τ) none (dst := (peer c r : Thread nD τ)) (κ := κ) (d := c) hd
    rfl 0 (owedL ps) rfl (W := W) (Es := Set.univ)) $$ [Htok Hx HL]
  · isplitr; · iexact Hi
    isplitl [HL]; · iexact HL
    isplitl [Htok]; · iexact Htok
    isplitl [Hx]; · rw [payload_bar]; unfold barPay; iexact Hx
    iexact Hr
  iintro HL
  rw [wp_ret]; imodintro
  iapply Hk
  iexists W
  iexact HL

/-- The barrier's wait: every peer's slot for this device's block comes. -/
theorem runs_barWait (c : Dev nD) (ps : List Pay) (ha : Above 1 ps) (K : PUnit → sProp 𝕄) :
    iprop(recs I ∗ cred (tallyAt (barCell c) 0 7) ∗ atPos ER (barCell c) 0 ∅ 0 ∗ ow c ps)
      ⊢ iprop(((ow c ps ∗ atPos ER (barCell c) 1 ∅ 0 ∗ SL up fun r => xfree (peer c r) c) -∗ K ⟨⟩) -∗ runs c barWait K) := by
  unfold barWait semWaitWord
  unfold ow runs
  iintro ⟨#HR, Hcr, Hpos, %W, HL⟩ Hk
  ihave #Hkn := (recs_bar I c) $$ HR
  unfold known inv
  icases Hkn with ⟨⟨%κ, #Hi⟩, #Hr⟩
  ihave #Hlev := (recs_lev I) $$ HR
  ihave Hmw := (mayWait c (.reg barS) 0 1 ps (by decide) (le_of_eq (lv_bar c 0)) ha) $$ Hlev
  iapply (Rounds.wp_wait_rest_token 𝒱₀ ER (Rd I) (c : Thread nD τ) none (κ := κ) (wpE_semWait_eq 𝒱₀ (c : Thread nD τ) none Set.univ) (Set.mem_univ _) 0
    (O := owedL ps) (W := W) (R := 0) (m := 0) (T := ∅) ((Nat.zero_add _).trans (expect_bar I c).symm)) $$ [Hcr HL Hmw Hpos]
  · isplitr; · iexact Hi
    isplitl [Hcr]; · iexact Hcr
    isplitl [HL]; · iexact HL
    isplitl [Hmw] <;> iassumption
  iintro ⟨HL, Hpos, -, Hpay⟩
  rw [wp_ret]; imodintro
  iapply Hk
  isplitl [HL]; · iexists _; iexact HL
  isplitl [Hpos]; · iexact Hpos
  rw [Finset.sdiff_empty, duties_bar, ← SL_others c fun d => xfree d c]
  iexact Hpay

/-! ## Waits on DMA cells -/

/-- A wait for a round of a DMA cell. -/
theorem runs_wait (c t : Dev nD) (a : Fin 4) (l i b : ℕ) (hl : rounds (qs a t) l) (hne : t ≠ c) (hi : i < 4) (hlv : lv (cell a c t) i ≤ b) (ps : List Pay)
    (ha : Above b ps) {q : DmaSem sig} (hq : q = qs a t) {src dst : Memref sig .tc .vmem S64x512 .bf16} (h1 h2) (hN : dst.view.dmaCredit = N) (K : PUnit → sProp 𝕄) :
    iprop(recs I ∗ cred (tallyAt (cell a c t) i N) ∗ atPos ER (cell a c t) l ∅ 0 ∗ ow c ps)
      ⊢ iprop(((ow c ps ∗ atPos ER (cell a c t) (l + 1) ∅ 0 ∗ reached ER (cell a c t) (l + 1) ∗ (Rd I).payload (cell a c t) l t) -∗ K ⟨⟩)
        -∗ runs c (Prog.lift (.waitDma2 q src dst h1 h2)) K) := by
  subst hq
  unfold ow runs Prog.lift
  iintro ⟨#HR, Hcr, Hpos, %W, HL⟩ Hk
  ihave #Hkn := (recs_cell I a c t) $$ HR
  unfold known inv
  icases Hkn with ⟨⟨%κ, #Hi⟩, #Hr⟩
  ihave #Hlev := (recs_lev I) $$ HR
  ihave Hmw := (mayWait c (.dma (qs a t)) i b ps hi hlv ha) $$ Hlev
  iapply (Rounds.wp_wait_rest_token 𝒱₀ ER (Rd I) (c : Thread nD τ) none (κ := κ) (wpE_waitDma2_eq 𝒱₀ (c : Thread nD τ) none Set.univ) (Set.mem_univ _) i
    (O := owedL ps) (W := W) (R := l) (m := 0) (T := ∅) ((Nat.zero_add _).trans (hN.trans (expect_cell I c t a l hl hne).symm))) $$ [Hcr HL Hmw Hpos]
  · isplitr; · iexact Hi
    isplitl [Hcr]; · rw [hN]; iexact Hcr
    isplitl [HL]; · iexact HL
    isplitl [Hmw] <;> iassumption
  iintro ⟨HL, Hpos, Hre, Hpay⟩
  rw [wp_ret]; imodintro
  iapply Hk
  isplitl [HL]; · iexists _; iexact HL
  isplitl [Hpos]; · iexact Hpos
  isplitl [Hre]; · iexact Hre
  ihave Hpay := (Entails.of_eq (rest_cell I c t a l hl hne)) $$ Hpay
  iexact Hpay

theorem credit_V (m : Memref sig .tc .vmem S8x64x512 .bf16) (hm : (slotAt m 0).view.dmaCredit = N) (k : Dev nD) : (slotAt m k).view.dmaCredit = N := hm

/-- The arrival of a peer's block. -/
theorem runs_agWait (c : Dev nD) (r : Fin 7) (l : ℕ) (hl : l < 4) (ps : List Pay) (ha : Above (2 + 2 * l) ps) (K : PUnit → sProp 𝕄) :
    iprop(recs I ∗ cred (tallyAt (cell 1 c (peer c r)) l N) ∗ atPos ER (cell 1 c (peer c r)) l ∅ 0 ∗ ow c ps)
      ⊢ iprop(((ow c ps ∗ atPos ER (cell 1 c (peer c r)) (l + 1) ∅ 0 ∗ reached ER (cell 1 c (peer c r)) (l + 1)
          ∗ xslot c (peer c r) fullShare (bufOf (Xs I l (peer c r))) ∗ hand (peer c r) c l) -∗ K ⟨⟩) -∗ runs c (agWait c r) K) := by
  have h := runs_wait I c (peer c r) 1 l l (2 + 2 * l) (rounds_ag _ l hl).2 (peer_ne c r) hl (le_of_eq (lv_agR c (peer c r) l)) ps ha (semP4 c r)
    (wordsV hxB c r) (wordsV hxB c r) (by rw [slotV_eq]) K
  rw [payload_agR] at h
  exact h
/-- The end of this device's send of its block to a peer. -/
theorem runs_agDone (c : Dev nD) (r : Fin 7) (l : ℕ) (hl : l < 4) (ps : List Pay) (ha : Above 0 ps) (K : PUnit → sProp 𝕄) :
    iprop(recs I ∗ cred (tallyAt (cell 0 c (peer c r)) 0 N) ∗ atPos ER (cell 0 c (peer c r)) l ∅ 0 ∗ ow c ps)
      ⊢ iprop(((ow c ps ∗ atPos ER (cell 0 c (peer c r)) (l + 1) ∅ 0 ∗ reached ER (cell 0 c (peer c r)) (l + 1)
          ∗ xslot c c (lf (peer c r)) (bufOf (Xs I l c))) -∗ K ⟨⟩) -∗ runs c (agDone c r) K) := by
  have h := runs_wait I c (peer c r) 0 l 0 0 (rounds_ag _ l hl).1 (peer_ne c r) (by decide) (le_of_eq (lv_agS c (peer c r) 0)) ps ha (semP3 c r)
    (wordsM hxB c) (wordsM hxB c) (by rw [slotM_eq]) K
  rw [payload_agS] at h
  exact h
/-- The arrival of a peer's partial. -/
theorem runs_rsWait (c : Dev nD) (r : Fin 7) (l : ℕ) (hl : l < 3) (ps : List Pay) (ha : Above (3 + 2 * l) ps) (K : PUnit → sProp 𝕄) :
    iprop(recs I ∗ cred (tallyAt (cell 3 c (peer c r)) l N) ∗ atPos ER (cell 3 c (peer c r)) l ∅ 0 ∗ ow c ps)
      ⊢ iprop(((ow c ps ∗ atPos ER (cell 3 c (peer c r)) (l + 1) ∅ 0 ∗ reached ER (cell 3 c (peer c r)) (l + 1)
          ∗ rslot c (peer c r) (bufOf (Ps I l (peer c r) c)) ∗ xfree (peer c r) c ∗ reached ER (cell 1 (peer c r) c) (l + 1)) -∗ K ⟨⟩) -∗ runs c (rsWait c r) K) := by
  have h := runs_wait I c (peer c r) 3 l l (3 + 2 * l) (rounds_rs _ l hl).2 (peer_ne c r) (by omega) (le_of_eq (lv_rsR c (peer c r) l)) ps ha (semP6 c r)
    (wordsV hrB c r) (wordsV hrB c r) (by rw [slotV_eq]) K
  rw [payload_rsR] at h
  exact h
/-- The end of this device's send of a partial. -/
theorem runs_rsDone (c : Dev nD) (r : Fin 7) (l : ℕ) (hl : l < 3) (ps : List Pay) (ha : Above 0 ps) (K : PUnit → sProp 𝕄) :
    iprop(recs I ∗ cred (tallyAt (cell 2 c (peer c r)) 0 N) ∗ atPos ER (cell 2 c (peer c r)) l ∅ 0 ∗ ow c ps)
      ⊢ iprop(((ow c ps ∗ atPos ER (cell 2 c (peer c r)) (l + 1) ∅ 0 ∗ reached ER (cell 2 c (peer c r)) (l + 1)
          ∗ pslot c (peer c r) (bufOf (Ps I l c (peer c r)))) -∗ K ⟨⟩) -∗ runs c (rsDone c r) K) := by
  have h := runs_wait I c (peer c r) 2 l 0 0 (rounds_rs _ l hl).1 (peer_ne c r) (by decide) (le_of_eq (lv_rsS c (peer c r) 0)) ps ha (semP5 c r)
    (wordsM hrB c) (wordsV hpB c r) (by rw [slotV_eq]) K
  rw [payload_rsS] at h
  exact h

/-! ## Sends -/

/-- A send with its views, semaphores and peer respelt. -/
theorem enq_eq {src src' dst dst' : Memref sig .tc .vmem S64x512 .bf16} {t t' : Dev nD} {sS sS' sR sR' : DmaSem sig}
    (e1 : src = src') (e2 : dst = dst') (e3 : t = t') (e4 : sS = sS') (e5 : sR = sR') (h1 h2) :
    ∃ h1' h2', (Prog.lift (.enqueueDma src (.remote (Dev.tc t) dst (.dma sS)) (.dma sR) h1 h2 ⟨⟨rfl, Or.inl rfl⟩, trivial⟩) : KProg F PUnit)
      = Prog.lift (.enqueueDma src' (.remote (Dev.tc t') dst' (.dma sS')) (.dma sR') h1' h2' ⟨⟨rfl, Or.inl rfl⟩, trivial⟩) := by
  subst e1 e2 e3 e4 e5; exact ⟨h1, h2, rfl⟩

/-- This device's block sent to a peer. -/
theorem runs_agSend (c : Dev nD) (r : Fin 7) (l : ℕ) (hl : l < 4) (ps : List Pay) (K : PUnit → sProp 𝕄) :
    iprop(recs I ∗ xslot c c (lf (peer c r)) (bufOf (Xs I l c)) ∗ xfree (peer c r) c ∗ hand c (peer c r) l
        ∗ reached ER (cell 0 c (peer c r)) l ∗ reached ER (cell 1 (peer c r) c) l
        ∗ dutyTok ER (cell 0 c (peer c r)) l (peer c r) ∗ dutyTok ER (cell 1 (peer c r) c) l c ∗ ow c (payAg c l r :: ps))
      ⊢ iprop(((ow c ps ∗ cred (tallyAt (cell 0 c (peer c r)) 0 N)) -∗ K ⟨⟩) -∗ runs c (agSend c r) K) := by
  obtain ⟨h1, h2, e⟩ := enq_eq (F := F) (slotM_eq xB c) (slotM_eq xB c) (agDev_eq c r) (semP3 c r) (semM4 c) (wordsM hxB c) (wordsM hxB c)
  unfold agSend
  rw [e]
  have hd₁ : peer c r ∈ (Rd I).duties (cell 0 c (peer c r)) l := by
    rw [duties_cell I c _ 0 l (rounds_ag _ l hl).1 (peer_ne c r)]; exact Finset.mem_singleton_self _
  have hd₂ : c ∈ (Rd I).duties (cell 1 (peer c r) c) l := by
    rw [duties_cell I _ c 1 l (rounds_ag _ l hl).2 (fun h => peer_ne c r h.symm)]; exact Finset.mem_singleton_self _
  unfold ow runs Prog.lift xfree
  iintro ⟨#HR, Hx, ⟨%fd, Hd⟩, Hh, #Hr1, #Hr2, Ht1, Ht2, %W, HL⟩ Hk
  ihave #Hkn := (recs_cell I 0 c (peer c r)) $$ HR
  ihave #Hkn' := (recs_cell I 1 (peer c r) c) $$ HR
  unfold known inv
  icases Hkn with ⟨⟨%κ₁, #Hi1⟩, -⟩
  icases Hkn' with ⟨⟨%κ₂, #Hi2⟩, -⟩
  iapply (Rounds.wp_send_pointsTo_with 𝒱₀ ER (Rd I) (c : Thread nD τ) none (c' := (peer c r : Thread nD τ)) (src := slotAt xB c) (dst := slotAt xB c)
    (κ₁ := κ₁) (κ₂ := κ₂) (r₁ := l) (r₂ := l) (d₁ := peer c r) (d₂ := c) (q := lf (peer c r)) (fs := bufOf (Xs I l c)) (fd := fd) (F := hand c (peer c r) l)
    hd₁ hd₂ l 0 N rfl rfl rfl (owedL ps) rfl (W := W)
    (by rw [payload_agS]; unfold agSPay xslot; rw [set_xB])
    (by
      rw [payload_agR, set_xB]
      exact BIClass.sep_mono (Entails.of_eq (pointsTo_congr (land_xB c c fd (Xs I l c)))) Entails.rfl) (Es := Set.univ)) $$ [Hx Hd Hh Ht1 Ht2 HL]
  · rw [set_xB]
    isplitr; · iexact Hi1
    isplitr; · iexact Hi2
    isplitl [Hx]; · unfold xslot; iexact Hx
    isplitl [Hd Hh]
    · isplitl [Hd]
      · unfold xslot; iexact Hd
      · iexact Hh
    isplitl [HL]; · iexact HL
    isplitl [Ht1]; · iexact Ht1
    isplitr; · iexact Hr1
    isplitl [Ht2]; · iexact Ht2
    iexact Hr2
  iintro ⟨Hcr, HL⟩
  rw [wp_ret]; imodintro
  iapply Hk
  isplitl [HL]
  · iexists W; iexact HL
  iexact Hcr

/-- A partial sent to a peer. -/
theorem runs_rsSend (c : Dev nD) (r : Fin 7) (l : ℕ) (hl : l < 3) (ps : List Pay) (K : PUnit → sProp 𝕄) :
    iprop(recs I ∗ pslot c (peer c r) (bufOf (Ps I l c (peer c r))) ∗ rfree (peer c r) c ∗ xfree c (peer c r) ∗ reached ER (cell 1 c (peer c r)) (l + 1)
        ∗ reached ER (cell 2 c (peer c r)) l ∗ reached ER (cell 3 (peer c r) c) l
        ∗ dutyTok ER (cell 2 c (peer c r)) l (peer c r) ∗ dutyTok ER (cell 3 (peer c r) c) l c ∗ ow c (payRs c l r :: ps))
      ⊢ iprop(((ow c ps ∗ cred (tallyAt (cell 2 c (peer c r)) 0 N)) -∗ K ⟨⟩) -∗ runs c (rsSend c r) K) := by
  obtain ⟨h1, h2, e⟩ := enq_eq (F := F) (slotV_eq pB c r) (slotM_eq rB c) (rsDev_eq c r) (semP5 c r) (semM6 c) (wordsV hpB c r) (wordsM hrB c)
  unfold rsSend
  rw [e]
  have hd₁ : peer c r ∈ (Rd I).duties (cell 2 c (peer c r)) l := by
    rw [duties_cell I c _ 2 l (rounds_rs _ l hl).1 (peer_ne c r)]; exact Finset.mem_singleton_self _
  have hd₂ : c ∈ (Rd I).duties (cell 3 (peer c r) c) l := by
    rw [duties_cell I _ c 3 l (rounds_rs _ l hl).2 (fun h => peer_ne c r h.symm)]; exact Finset.mem_singleton_self _
  unfold ow runs Prog.lift rfree
  iintro ⟨#HR, Hx, ⟨%fd, Hd⟩, Hh, #Hr0, #Hr1, #Hr2, Ht1, Ht2, %W, HL⟩ Hk
  ihave #Hkn := (recs_cell I 2 c (peer c r)) $$ HR
  ihave #Hkn' := (recs_cell I 3 (peer c r) c) $$ HR
  unfold known inv
  icases Hkn with ⟨⟨%κ₁, #Hi1⟩, -⟩
  icases Hkn' with ⟨⟨%κ₂, #Hi2⟩, -⟩
  iapply (Rounds.wp_send_pointsTo_with 𝒱₀ ER (Rd I) (c : Thread nD τ) none (c' := (peer c r : Thread nD τ)) (src := slotAt pB (peer c r)) (dst := slotAt rB c)
    (κ₁ := κ₁) (κ₂ := κ₂) (r₁ := l) (r₂ := l) (d₁ := peer c r) (d₂ := c) (q := fullShare) (fs := bufOf (Ps I l c (peer c r))) (fd := fd)
    (F := iprop(xfree c (peer c r) ∗ reached ER (cell 1 c (peer c r)) (l + 1)))
    hd₁ hd₂ l 0 N rfl rfl rfl (owedL ps) rfl (W := W)
    (by rw [payload_rsS]; unfold rsSPay pslot; rw [set_pB])
    (by
      rw [payload_rsR, set_rB]
      exact BIClass.sep_mono (Entails.of_eq (pointsTo_congr (land_rB (peer c r) c fd (Ps I l c (peer c r))))) Entails.rfl) (Es := Set.univ)) $$ [Hx Hd Hh Ht1 Ht2 HL]
  · rw [set_pB, set_rB]
    isplitr; · iexact Hi1
    isplitr; · iexact Hi2
    isplitl [Hx]; · unfold pslot; iexact Hx
    isplitl [Hd Hh]
    · isplitl [Hd]
      · unfold rslot; iexact Hd
      · isplitl [Hh]
        · iexact Hh
        · iexact Hr0
    isplitl [HL]; · iexact HL
    isplitl [Ht1]; · iexact Ht1
    isplitr; · iexact Hr1
    isplitl [Ht2]; · iexact Ht2
    iexact Hr2
  iintro ⟨Hcr, HL⟩
  rw [wp_ret]; imodintro
  iapply Hk
  isplitl [HL]
  · iexists W; iexact HL
  iexact Hcr

end Cert.Steps

end
-- ==== Proof.Layer.lean ====
/-
A layer of the program as a whole: what a device holds at every peer between layers, each phase's rule over all
peers, and the layer's rule at a symbolic layer number.
-/
module

public import proofs.«01_k».proof.Proof.Transfers

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## What a device holds per peer -/

section Held
variable (c : Dev nD) (l : ℕ) (r : Fin 7)

/-- The leaf of its own block lent to the peer's send; the peer's slot for it. -/
def leafs : sProp 𝕄 := xslot c c (lf (peer c r)) (bufOf (Xs I l c))
def xf : sProp 𝕄 := xfree (F := F) (peer c r) c
/-- Its own slots of partials for the peer. -/
def pf : sProp 𝕄 := pfree (F := F) c (peer c r)
def rf : sProp 𝕄 := rfree (F := F) c (peer c r)
/-- The peer's block. -/
def xs : sProp 𝕄 := xslot c (peer c r) fullShare (bufOf (Xs I l (peer c r)))
/-- What goes to the peer with the block, and what comes with the peer's. -/
def hnd : sProp 𝕄 := hand (F := F) c (peer c r) l
def gft : sProp 𝕄 := hand (F := F) (peer c r) c l
/-- The rounds its cells have reached, and the peer's receive cell for its block. -/
def rc (a : Fin 4) : sProp 𝕄 := reached (ER (F := F)) (cell a c (peer c r)) l
def rc' : sProp 𝕄 := reached (ER (F := F)) (cell 1 (peer c r) c) l
/-- The owner's positions at its cells. -/
def ps (a : Fin 4) : sProp 𝕄 := atPos (ER (F := F)) (cell a c (peer c r)) l ∅ 0
/-- The duties of a transfer it makes: its own cell's and the peer's. -/
def tkA : sProp 𝕄 := iprop(dutyTok (ER (F := F)) (cell 0 c (peer c r)) l (peer c r) ∗ dutyTok (ER (F := F)) (cell 1 (peer c r) c) l c)
def tkR : sProp 𝕄 := iprop(dutyTok (ER (F := F)) (cell 2 c (peer c r)) l (peer c r) ∗ dutyTok (ER (F := F)) (cell 3 (peer c r) c) l c)
/-- Credit on its cells. -/
def cr (a : Fin 4) (i : ℕ) : sProp 𝕄 := cred (tallyAt (cell a c (peer c r)) i N)

end Held

/-! ## The phases -/

section Phases
variable (c : Dev nD) (l : ℕ)

/-- The sends of this device's block to every peer. -/
theorem ph_agSend (hl : l < 4) (rest : List Pay) (K : PUnit → sProp 𝕄) :
    iprop(recs I ∗ (SL up (leafs I c l) ∗ SL up (xf c) ∗ SL up (hnd c l) ∗ SL up (fun r => rc c l r 0) ∗ SL up (rc' c l) ∗ SL up (tkA c l))
        ∗ ow c (up.map (payAg c l) ++ rest))
      ⊢ iprop(((ow c rest ∗ SL up (fun r => cr c r 0 0)) -∗ K ⟨⟩) -∗ runs c (each up (agSend c)) K) := by
  have hs : ∀ (r : Fin 7) (ls : List (Fin 7)) (K : PUnit → sProp 𝕄),
      iprop((leafs I c l r ∗ xf c r ∗ hnd c l r ∗ rc c l r 0 ∗ rc' c l r ∗ tkA c l r) ∗ recs I ∗ ow c ((r :: ls).map (payAg c l) ++ rest))
        ⊢ iprop(((cr c r 0 0 ∗ recs I ∗ ow c (ls.map (payAg c l) ++ rest)) -∗ K ⟨⟩) -∗ runs c (agSend c r) K) := by
    intro r ls K
    unfold leafs xf hnd rc rc' tkA cr
    iintro ⟨⟨H1, H2, H3, H4, H5, H6, H7⟩, #HR, HO⟩ Hk
    iapply (runs_agSend I c r l hl (ls.map (payAg c l) ++ rest) K) $$ [H1 H2 H3 H4 H5 H6 H7 HO]
    · isplitr; · iexact HR
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HO
    iintro ⟨HO, HC⟩
    iapply Hk
    isplitl [HC]; · iexact HC
    isplitr [HO]; · iexact HR
    iexact HO
  rw [← SL_sep, ← SL_sep, ← SL_sep, ← SL_sep, ← SL_sep]
  iintro ⟨#HR, HA, HO⟩ Hk
  iapply (runs_each c (agSend c) _ (fun r => cr c r 0 0) (fun ls => iprop(recs I ∗ ow c (ls.map (payAg c l) ++ rest))) hs up K) $$ [HA HO]
  · isplitl [HA]; · iexact HA
    isplitr [HO]; · iexact HR
    iexact HO
  iintro ⟨HB, -, HO⟩
  iapply Hk
  isplitl [HO]; · iexact HO
  iexact HB

/-- The arrivals of the blocks of some peers. -/
theorem ph_agWait (hl : l < 4) (rest : List Pay) (ha : Above (2 + 2 * l) rest) (ls : List (Fin 7)) (K : PUnit → sProp 𝕄) :
    iprop(recs I ∗ (SL ls (fun r => cr c r 1 l) ∗ SL ls (fun r => ps c l r 1)) ∗ ow c rest)
      ⊢ iprop(((ow c rest ∗ SL ls (fun r => ps c (l + 1) r 1) ∗ SL ls (fun r => rc c (l + 1) r 1) ∗ SL ls (xs I c l) ∗ SL ls (gft c l)) -∗ K ⟨⟩)
        -∗ runs c (each ls (agWait c)) K) := by
  have hs : ∀ (r : Fin 7) (ls : List (Fin 7)) (K : PUnit → sProp 𝕄),
      iprop((cr c r 1 l ∗ ps c l r 1) ∗ recs I ∗ ow c rest)
        ⊢ iprop((((ps c (l + 1) r 1 ∗ rc c (l + 1) r 1 ∗ xs I c l r ∗ gft c l r) ∗ recs I ∗ ow c rest) -∗ K ⟨⟩) -∗ runs c (agWait c r) K) := by
    intro r ls K
    unfold cr ps rc xs gft
    iintro ⟨⟨H1, H2⟩, #HR, HO⟩ Hk
    iapply (runs_agWait I c r l hl rest ha K) $$ [H1 H2 HO]
    · isplitr; · iexact HR
      isplitl [H1]; · iexact H1
      isplitl [H2]; · iexact H2
      iexact HO
    iintro ⟨HO, HB⟩
    iapply Hk
    isplitl [HB]; · iexact HB
    isplitr [HO]; · iexact HR
    iexact HO
  rw [← SL_sep, ← SL_sep, ← SL_sep, ← SL_sep]
  iintro ⟨#HR, HA, HO⟩ Hk
  iapply (runs_each c (agWait c) _ (fun r => iprop(ps c (l + 1) r 1 ∗ rc c (l + 1) r 1 ∗ xs I c l r ∗ gft c l r)) (fun _ => iprop(recs I ∗ ow c rest)) hs ls K) $$ [HA HO]
  · isplitl [HA]; · iexact HA
    isplitr [HO]; · iexact HR
    iexact HO
  iintro ⟨HB, -, HO⟩
  iapply Hk
  isplitl [HO]; · iexact HO
  iexact HB

/-- The ends of the sends of this device's block. -/
theorem ph_agDone (hl : l < 4) (rest : List Pay) (ha : Above 0 rest) (ls : List (Fin 7)) (K : PUnit → sProp 𝕄) :
    iprop(recs I ∗ (SL ls (fun r => cr c r 0 0) ∗ SL ls (fun r => ps c l r 0)) ∗ ow c rest)
      ⊢ iprop(((ow c rest ∗ SL ls (fun r => ps c (l + 1) r 0) ∗ SL ls (fun r => rc c (l + 1) r 0) ∗ SL ls (leafs I c l)) -∗ K ⟨⟩)
        -∗ runs c (each ls (agDone c)) K) := by
  have hs : ∀ (r : Fin 7) (ls : List (Fin 7)) (K : PUnit → sProp 𝕄),
      iprop((cr c r 0 0 ∗ ps c l r 0) ∗ recs I ∗ ow c rest)
        ⊢ iprop((((ps c (l + 1) r 0 ∗ rc c (l + 1) r 0 ∗ leafs I c l r) ∗ recs I ∗ ow c rest) -∗ K ⟨⟩) -∗ runs c (agDone c r) K) := by
    intro r ls K
    unfold cr ps rc leafs
    iintro ⟨⟨H1, H2⟩, #HR, HO⟩ Hk
    iapply (runs_agDone I c r l hl rest ha K) $$ [H1 H2 HO]
    · isplitr; · iexact HR
      isplitl [H1]; · iexact H1
      isplitl [H2]; · iexact H2
      iexact HO
    iintro ⟨HO, HB⟩
    iapply Hk
    isplitl [HB]; · iexact HB
    isplitr [HO]; · iexact HR
    iexact HO
  rw [← SL_sep, ← SL_sep, ← SL_sep]
  iintro ⟨#HR, HA, HO⟩ Hk
  iapply (runs_each c (agDone c) _ (fun r => iprop(ps c (l + 1) r 0 ∗ rc c (l + 1) r 0 ∗ leafs I c l r)) (fun _ => iprop(recs I ∗ ow c rest)) hs ls K) $$ [HA HO]
  · isplitl [HA]; · iexact HA
    isplitr [HO]; · iexact HR
    iexact HO
  iintro ⟨HB, -, HO⟩
  iapply Hk
  isplitl [HO]; · iexact HO
  iexact HB

/-- The ends of the sends of this device's partials. -/
theorem ph_rsDone (hl : l < 3) (rest : List Pay) (ha : Above 0 rest) (ls : List (Fin 7)) (K : PUnit → sProp 𝕄) :
    iprop(recs I ∗ (SL ls (fun r => cr c r 2 0) ∗ SL ls (fun r => ps c l r 2)) ∗ ow c rest)
      ⊢ iprop(((ow c rest ∗ SL ls (fun r => ps c (l + 1) r 2) ∗ SL ls (fun r => rc c (l + 1) r 2) ∗ SL ls (pf c)) -∗ K ⟨⟩)
        -∗ runs c (each ls (rsDone c)) K) := by
  have hs : ∀ (r : Fin 7) (ls : List (Fin 7)) (K : PUnit → sProp 𝕄),
      iprop((cr c r 2 0 ∗ ps c l r 2) ∗ recs I ∗ ow c rest)
        ⊢ iprop((((ps c (l + 1) r 2 ∗ rc c (l + 1) r 2 ∗ pf c r) ∗ recs I ∗ ow c rest) -∗ K ⟨⟩) -∗ runs c (rsDone c r) K) := by
    intro r ls K
    unfold cr ps rc pf
    iintro ⟨⟨H1, H2⟩, #HR, HO⟩ Hk
    iapply (runs_rsDone I c r l hl rest ha K) $$ [H1 H2 HO]
    · isplitr; · iexact HR
      isplitl [H1]; · iexact H1
      isplitl [H2]; · iexact H2
      iexact HO
    iintro ⟨HO, HB1, HB2, HB3⟩
    iapply Hk
    isplitl [HB1 HB2 HB3]
    · isplitl [HB1]; · iexact HB1
      isplitl [HB2]; · iexact HB2
      unfold pfree
      iexists _
      iexact HB3
    isplitr [HO]; · iexact HR
    iexact HO
  rw [← SL_sep, ← SL_sep, ← SL_sep]
  iintro ⟨#HR, HA, HO⟩ Hk
  iapply (runs_each c (rsDone c) _ (fun r => iprop(ps c (l + 1) r 2 ∗ rc c (l + 1) r 2 ∗ pf c r)) (fun _ => iprop(recs I ∗ ow c rest)) hs ls K) $$ [HA HO]
  · isplitl [HA]; · iexact HA
    isplitr [HO]; · iexact HR
    iexact HO
  iintro ⟨HB, -, HO⟩
  iapply Hk
  isplitl [HO]; · iexact HO
  iexact HB

/-- A partial stored and sent. -/
theorem ph_stSend (hl : l < 3) (r : Fin 7) (rest : List Pay) (v : FVec F S64x512 .f32) (hv : rnd v = Ps I l c (peer c r)) (K : PUnit → sProp 𝕄) :
    iprop(recs I ∗ (pf c r ∗ rc c (l + 1) r 1 ∗ xs I c l r ∗ gft c l r ∗ rc c l r 2 ∗ tkR c l r) ∗ ow c (payRs c l r :: rest))
      ⊢ iprop(((ow c rest ∗ cr c r 2 0) -∗ K ⟨⟩) -∗ runs c (stSend c r v) K) := by
  unfold stSend
  rw [runs_bind, hv]
  unfold gft hand pf rc xs tkR cr
  rw [if_pos hl]
  iintro ⟨#HR, ⟨Hpf, Hrc, Hxs, ⟨Hrf, Hr3⟩, Hr2, Ht1, Ht2⟩, HO⟩ Hk
  iapply (runs_stP c (peer c r) r.succ (peer0_succ c r) (Ps I l c (peer c r)) _) $$ [Hpf]
  · iexact Hpf
  iintro Hp
  iapply (runs_rsSend I c r l hl rest K) $$ [Hp Hrc Hxs Hrf Hr3 Hr2 Ht1 Ht2 HO]
  · isplitr; · iexact HR
    isplitl [Hp]; · iexact Hp
    isplitl [Hrf]; · iexact Hrf
    isplitl [Hxs]
    · unfold xfree; iexists _; iexact Hxs
    isplitl [Hrc]; · iexact Hrc
    isplitl [Hr2]; · iexact Hr2
    isplitl [Hr3]; · iexact Hr3
    isplitl [Ht1]; · iexact Ht1
    isplitl [Ht2]; · iexact Ht2
    iexact HO
  iexact Hk

/-- The arrival of a peer's partial. -/
theorem st_rsWait (hl : l < 3) (rest : List Pay) (ha : Above (3 + 2 * l) rest) (r : Fin 7) (K : PUnit → sProp 𝕄) :
    iprop(recs I ∗ (cr c r 3 l ∗ ps c l r 3) ∗ ow c rest)
      ⊢ iprop(((ow c rest ∗ ps c (l + 1) r 3 ∗ rc c (l + 1) r 3 ∗ rslot c (peer c r) (bufOf (Ps I l (peer c r) c)) ∗ xf c r ∗ rc' c (l + 1) r)
          -∗ K ⟨⟩) -∗ runs c (rsWait c r) K) := by
  unfold cr ps rc xf rc'
  iintro ⟨#HR, ⟨H1, H2⟩, HO⟩ Hk
  iapply (runs_rsWait I c r l hl rest ha _) $$ [H1 H2 HO]
  · isplitr; · iexact HR
    isplitl [H1]; · iexact H1
    isplitl [H2]; · iexact H2
    iexact HO
  iexact Hk

/-- The peers' partials awaited and added. -/
theorem ph_accum (hl : l < 3) (rest : List Pay) (ha : Above (3 + 2 * l) rest) (ls : List (Fin 7)) (a : FVec F S64x512 .f32) (K : FVec F S64x512 .f32 → sProp 𝕄) :
    iprop(recs I ∗ (SL ls (fun r => cr c r 3 l) ∗ SL ls (fun r => ps c l r 3)) ∗ ow c rest)
      ⊢ iprop(((ow c rest ∗ SL ls (fun r => ps c (l + 1) r 3) ∗ SL ls (fun r => rc c (l + 1) r 3) ∗ SL ls (rf c) ∗ SL ls (xf c) ∗ SL ls (rc' c (l + 1)))
          -∗ K (ls.foldl (fun a r => accAdd a (Ps I l (peer c r) c)) a))
        -∗ runs c (accum c ls a) K) := by
  induction ls generalizing a K with
  | nil =>
    simp only [SL_nil, List.foldl_nil]
    iintro ⟨#HR, -, HO⟩ Hk
    iapply (runs_pure c a K)
    iapply Hk
    isplitl [HO]; · iexact HO
    isplitr; · iempintro
    isplitr; · iempintro
    isplitr; · iempintro
    isplitr; · iempintro
    iempintro
  | cons r ls ih =>
    simp only [SL_cons, List.foldl_cons]
    unfold accum
    rw [runs_bind]
    iintro ⟨#HR, ⟨⟨H1, Hs1⟩, H2, Hs2⟩, HO⟩ Hk
    iapply (st_rsWait I c l hl rest ha r _) $$ [H1 H2 HO]
    · isplitr; · iexact HR
      isplitl [H1 H2]
      · isplitl [H1] <;> iassumption
      iexact HO
    iintro ⟨HO, HB1, HB2, HB3, HB4, HB5⟩
    rw [runs_bind]
    iapply (runs_ldR c (peer c r) r.succ (peer0_succ c r) (Ps I l (peer c r) c) _) $$ [HB3]
    · iexact HB3
    iintro HB3
    rw [read_rB]
    iapply (ih _ K) $$ [Hs1 Hs2 HO]
    · isplitr; · iexact HR
      isplitl [Hs1 Hs2]
      · isplitl [Hs1]; · iexact Hs1
        iexact Hs2
      iexact HO
    iintro ⟨HO, HC1, HC2, HC3, HC4, HC5⟩
    iapply Hk
    isplitl [HO]; · iexact HO
    isplitl [HB1 HC1]
    · isplitl [HB1] <;> iassumption
    isplitl [HB2 HC2]
    · isplitl [HB2] <;> iassumption
    isplitl [HB3 HC3]
    · isplitl [HB3]
      · unfold rf rfree; iexists _; iexact HB3
      · iexact HC3
    isplitl [HB4 HC4]
    · isplitl [HB4] <;> iassumption
    isplitl [HB5] <;> iassumption

end Phases

end Cert.Steps

end
-- ==== Proof.Halves.lean ====
/-
The two halves of a layer, its end, and the layer's rule at a symbolic layer number.
-/
module

public import proofs.«01_k».proof.Proof.Layer

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## The peers of the two halves -/

/-- The distances of the first half's peers and of the second's. -/
abbrev hi : List (Fin 7) := [6, 5, 4]
abbrev lo : List (Fin 7) := [3, 2, 1, 0]

section Lists
theorem SL_up (Φ : Fin 7 → sProp 𝕄) : SL up Φ = iprop(SL hi Φ ∗ SL lo Φ) := by
  rw [← SL_dn, ← SL_append]; rfl
theorem hi_out (Φ : Fin 7 → sProp 𝕄) : SL hi Φ ⊢ iprop(Φ 6 ∗ Φ 5 ∗ Φ 4) := by
  simp only [SL_cons, SL_nil]
  iintro ⟨H6, H5, H4, -⟩
  isplitl [H6]; · iexact H6
  isplitl [H5] <;> iassumption
theorem hi_in (Φ : Fin 7 → sProp 𝕄) : iprop(Φ 6 ∗ Φ 5 ∗ Φ 4) ⊢ SL hi Φ := by
  simp only [SL_cons, SL_nil]
  iintro ⟨H6, H5, H4⟩
  isplitl [H6]; · iexact H6
  isplitl [H5]; · iexact H5
  isplitl [H4]; · iexact H4
  iempintro
theorem lo_out (Φ : Fin 7 → sProp 𝕄) : SL lo Φ ⊢ iprop(Φ 3 ∗ Φ 2 ∗ Φ 1 ∗ Φ 0) := by
  simp only [SL_cons, SL_nil]
  iintro ⟨H6, H5, H4, H3, -⟩
  isplitl [H6]; · iexact H6
  isplitl [H5]; · iexact H5
  isplitl [H4] <;> iassumption
theorem lo_in (Φ : Fin 7 → sProp 𝕄) : iprop(Φ 3 ∗ Φ 2 ∗ Φ 1 ∗ Φ 0) ⊢ SL lo Φ := by
  simp only [SL_cons, SL_nil]
  iintro ⟨H6, H5, H4, H3⟩
  isplitl [H6]; · iexact H6
  isplitl [H5]; · iexact H5
  isplitl [H4]; · iexact H4
  isplitl [H3]; · iexact H3
  iempintro

end Lists

/-- A device's own block is the leaves lent to its sends and the one it keeps. -/
theorem own_leaves (c : Dev nD) (f : S8x64x512.Idx → Elt F .bf16) :
    xslot (F := F) c c fullShare f = iprop(xslot c c (lf c) f ∗ SL up fun r => xslot c c (lf (peer c r)) f) := by
  rw [← SL_dev c fun t => xslot c c (lf t) f]
  exact ShareLeaves.pointsTo_leaves _ _ 3 _

section Halves
variable (c : Dev nD) (l : ℕ)

/-- The block a device keeps reading of its own. -/
def ownl : sProp 𝕄 := xslot c c (lf c) (bufOf (Xs I l c))

theorem ld_own (K : Vec F S1x64x512 .bf16 → sProp 𝕄) :
    ownl I c l ⊢ iprop((ownl I c l -∗ K ((xB.access (slotR c)).read (Elt F) (bufOf (Xs I l c)))) -∗ runs c (ldS xB c 0) K) :=
  runs_ldX c c 0 (peer0_zero c) _ _ K
theorem ld_peer (r : Fin 7) (K : Vec F S1x64x512 .bf16 → sProp 𝕄) :
    xs I c l r ⊢ iprop((xs I c l r -∗ K ((xB.access (slotR (peer c r))).read (Elt F) (bufOf (Xs I l (peer c r))))) -∗ runs c (ldS xB c r.succ) K) :=
  runs_ldX c (peer c r) r.succ (peer0_succ c r) _ _ K

/-- A weight staged in `w` is the value `X` of its layer: the rule of its load. -/
def Holds1 (c : Dev nD) (W : sProp 𝕄) (w : Memref sig .tc .vmem S512x1024 .bf16) (X : FVec F S512x1024 .bf16) : Prop :=
  ∃ v : Vec F S512x1024 .bf16, shapeCast S512x1024 v shapeCasts_S512x1024_S512x1024 = X ∧ ∀ K : Vec F S512x1024 .bf16 → sProp 𝕄,
    W ⊢ iprop((W -∗ K v) -∗ runs c (Prog.lift (.load w (Rect.unit (s := S512x1024) ![0, 0] S512x1024.size inb_S512x1024_S512x1024_0_0).toLoadRect (View.loadsAt_vmem h_S512x1024))) K)
def Holds2 (c : Dev nD) (W : sProp 𝕄) (w : Memref sig .tc .vmem S1024x512 .bf16) (X : FVec F S1024x512 .bf16) : Prop :=
  ∃ v : Vec F S1024x512 .bf16, shapeCast S1024x512 v shapeCasts_S1024x512_S1024x512 = X ∧ ∀ K : Vec F S1024x512 .bf16 → sProp 𝕄,
    W ⊢ iprop((W -∗ K v) -∗ runs c (Prog.lift (.load w (Rect.unit (s := S1024x512) ![0, 0] S1024x512.size inb_S1024x512_S1024x512_0_0).toLoadRect (View.loadsAt_vmem h_S1024x512))) K)

/-- The first half of a layer. -/
theorem runs_half1 (hl : l < 3) (rest : List Pay) (ha : Above (2 + 2 * l) rest) (W1 W2 : sProp 𝕄) (w1 w2) (h1 : Holds1 c W1 w1 (I.wi l c)) (h2 : Holds2 c W2 w2 (I.wo l c))
    (K : _ → sProp 𝕄) :
    iprop(recs I ∗ (SL up (leafs I c l) ∗ SL up (xf c) ∗ SL up (hnd c l) ∗ SL up (fun r => rc c l r 0) ∗ SL up (rc' c l) ∗ SL up (tkA c l))
        ∗ (ownl I c l ∗ W1 ∗ W2 ∗ pfree c c)
        ∗ (SL hi (fun r => cr c r 1 l) ∗ SL hi (fun r => ps c l r 1) ∗ SL hi (pf c) ∗ SL hi (fun r => rc c l r 2) ∗ SL hi (tkR c l))
        ∗ ow c (up.map (payAg c l) ++ (hi.map (payRs c l) ++ rest)))
      ⊢ iprop(((ow c rest ∗ (ownl I c l ∗ W1 ∗ W2 ∗ pfree c c) ∗ SL up (fun r => cr c r 0 0) ∗ SL hi (fun r => ps c (l + 1) r 1) ∗ SL hi (fun r => cr c r 2 0))
          -∗ K (I.wi l c, I.wo l c, row0 (part1 (I.wi l c) (I.wo l c) (Xs I l) c)))
        -∗ runs c (half1 c w1 w2) K) := by
  obtain ⟨v1, e1, h1⟩ := h1
  obtain ⟨v2, e2, h2⟩ := h2
  have ha' : Above (2 + 2 * l) (hi.map (payRs c l) ++ rest) := (above_rs c l _ hi (by omega) (by omega)).append ha
  unfold half1
  iintro ⟨#HR, HA, ⟨Hown, HW1, HW2, Hpc⟩, ⟨Hcr, Hps, Hpf, Hr2, HtR⟩, HO⟩ Hk
  rw [runs_bind]
  iapply (ph_agSend I c l (by omega) _ _) $$ [HA HO]
  · isplitr; · iexact HR
    isplitl [HA] <;> iassumption
  iintro ⟨HO, Hc0⟩
  rw [runs_bind]
  iapply (h1 _) $$ HW1
  iintro HW1
  rw [runs_bind]
  iapply (h2 _) $$ HW2
  iintro HW2
  rw [runs_bind]
  iapply (ph_agWait I c l (by omega) _ ha' hi _) $$ [Hcr Hps HO]
  · isplitr; · iexact HR
    isplitl [Hcr Hps]
    · isplitl [Hcr] <;> iassumption
    iexact HO
  iintro ⟨HO, Hps, Hr1, Hxs, Hgf⟩
  ihave Hxs := (hi_out (xs I c l)) $$ Hxs
  icases Hxs with ⟨X6, X5, X4⟩
  rw [runs_bind]
  iapply (ld_own I c l _) $$ Hown
  iintro Hown
  rw [runs_bind]
  iapply (ld_peer I c l 6 _) $$ X6
  iintro X6
  rw [runs_bind]
  iapply (ld_peer I c l 5 _) $$ X5
  iintro X5
  rw [runs_bind]
  iapply (ld_peer I c l 4 _) $$ X4
  iintro X4
  rw [read_xB, read_xB, read_xB, read_xB, e1, e2]
  rw [runs_bind]
  iapply (runs_stP c c 0 (peer0_zero c) _ _) $$ Hpc
  iintro Hpc
  ihave Hpf := (hi_out (pf c)) $$ Hpf
  icases Hpf with ⟨P6, P5, P4⟩
  ihave Hr1 := (hi_out (fun r => rc c (l + 1) r 1)) $$ Hr1
  icases Hr1 with ⟨A6, A5, A4⟩
  ihave Hgf := (hi_out (gft c l)) $$ Hgf
  icases Hgf with ⟨G6, G5, G4⟩
  ihave Hr2 := (hi_out (fun r => rc c l r 2)) $$ Hr2
  icases Hr2 with ⟨B6, B5, B4⟩
  ihave HtR := (hi_out (tkR c l)) $$ HtR
  icases HtR with ⟨T6, T5, T4⟩
  rw [runs_bind]
  iapply (ph_stSend I c l hl 6 _ (row1 (part1 (I.wi l c) (I.wo l c) (Xs I l) c)) (Ps_peer I l c 6).symm _) $$ [P6 A6 X6 G6 B6 T6 HO]
  · isplitr; · iexact HR
    isplitl [P6 A6 X6 G6 B6 T6]
    · isplitl [P6]; · iexact P6
      isplitl [A6]; · iexact A6
      isplitl [X6]; · iexact X6
      isplitl [G6]; · iexact G6
      isplitl [B6] <;> iassumption
    iexact HO
  iintro ⟨HO, C6⟩
  rw [runs_bind]
  iapply (ph_stSend I c l hl 5 _ (row2 (part1 (I.wi l c) (I.wo l c) (Xs I l) c)) (Ps_peer I l c 5).symm _) $$ [P5 A5 X5 G5 B5 T5 HO]
  · isplitr; · iexact HR
    isplitl [P5 A5 X5 G5 B5 T5]
    · isplitl [P5]; · iexact P5
      isplitl [A5]; · iexact A5
      isplitl [X5]; · iexact X5
      isplitl [G5]; · iexact G5
      isplitl [B5] <;> iassumption
    iexact HO
  iintro ⟨HO, C5⟩
  rw [runs_bind]
  iapply (ph_stSend I c l hl 4 _ (row3 (part1 (I.wi l c) (I.wo l c) (Xs I l) c)) (Ps_peer I l c 4).symm _) $$ [P4 A4 X4 G4 B4 T4 HO]
  · isplitr; · iexact HR
    isplitl [P4 A4 X4 G4 B4 T4]
    · isplitl [P4]; · iexact P4
      isplitl [A4]; · iexact A4
      isplitl [X4]; · iexact X4
      isplitl [G4]; · iexact G4
      isplitl [B4] <;> iassumption
    iexact HO
  iintro ⟨HO, C4⟩
  iapply (runs_pure c _ K)
  unfold part1
  iapply Hk
  isplitl [HO]; · iexact HO
  isplitl [Hown HW1 HW2 Hpc]
  · isplitl [Hown]; · iexact Hown
    isplitl [HW1]; · iexact HW1
    isplitl [HW2]; · iexact HW2
    unfold pfree; iexists _; iexact Hpc
  isplitl [Hc0]; · iexact Hc0
  isplitl [Hps]; · iexact Hps
  iapply (hi_in (fun r => cr c r 2 0))
  isplitl [C6]; · iexact C6
  isplitl [C5] <;> iassumption

/-- The second half of a layer. -/
theorem runs_half2 (hl : l < 3) (rest : List Pay) (ha : Above (2 + 2 * l) rest) (K : PUnit → sProp 𝕄) :
    iprop(recs I
        ∗ (SL lo (fun r => cr c r 1 l) ∗ SL lo (fun r => ps c l r 1) ∗ SL lo (pf c) ∗ SL lo (fun r => rc c l r 2) ∗ SL lo (tkR c l))
        ∗ ow c (lo.map (payRs c l) ++ rest))
      ⊢ iprop(((ow c rest ∗ SL lo (fun r => ps c (l + 1) r 1) ∗ SL lo (fun r => cr c r 2 0)) -∗ K ⟨⟩)
        -∗ runs c (half2 c (I.wi l c) (I.wo l c)) K) := by
  have ha' : Above (2 + 2 * l) (lo.map (payRs c l) ++ rest) := (above_rs c l _ lo (by omega) (by omega)).append ha
  unfold half2
  iintro ⟨#HR, ⟨Hcr, Hps, Hpf, Hr2, HtR⟩, HO⟩ Hk
  rw [runs_bind]
  iapply (ph_agWait I c l (by omega) _ ha' lo _) $$ [Hcr Hps HO]
  · isplitr; · iexact HR
    isplitl [Hcr Hps]
    · isplitl [Hcr] <;> iassumption
    iexact HO
  iintro ⟨HO, Hps, Hr1, Hxs, Hgf⟩
  ihave Hxs := (lo_out (xs I c l)) $$ Hxs
  icases Hxs with ⟨X3, X2, X1, X0⟩
  rw [runs_bind]
  iapply (ld_peer I c l 3 _) $$ X3
  iintro X3
  rw [runs_bind]
  iapply (ld_peer I c l 2 _) $$ X2
  iintro X2
  rw [runs_bind]
  iapply (ld_peer I c l 1 _) $$ X1
  iintro X1
  rw [runs_bind]
  iapply (ld_peer I c l 0 _) $$ X0
  iintro X0
  rw [read_xB, read_xB, read_xB, read_xB]
  ihave Hpf := (lo_out (pf c)) $$ Hpf
  icases Hpf with ⟨P3, P2, P1, P0⟩
  ihave Hr1 := (lo_out (fun r => rc c (l + 1) r 1)) $$ Hr1
  icases Hr1 with ⟨A3, A2, A1, A0⟩
  ihave Hgf := (lo_out (gft c l)) $$ Hgf
  icases Hgf with ⟨G3, G2, G1, G0⟩
  ihave Hr2 := (lo_out (fun r => rc c l r 2)) $$ Hr2
  icases Hr2 with ⟨B3, B2, B1, B0⟩
  ihave HtR := (lo_out (tkR c l)) $$ HtR
  icases HtR with ⟨T3, T2, T1, T0⟩
  rw [runs_bind]
  iapply (ph_stSend I c l hl 3 _ (row0 (part2 (I.wi l c) (I.wo l c) (Xs I l) c)) (Ps_peer I l c 3).symm _) $$ [P3 A3 X3 G3 B3 T3 HO]
  · isplitr; · iexact HR
    isplitl [P3 A3 X3 G3 B3 T3]
    · isplitl [P3]; · iexact P3
      isplitl [A3]; · iexact A3
      isplitl [X3]; · iexact X3
      isplitl [G3]; · iexact G3
      isplitl [B3] <;> iassumption
    iexact HO
  iintro ⟨HO, C3⟩
  rw [runs_bind]
  iapply (ph_stSend I c l hl 2 _ (row1 (part2 (I.wi l c) (I.wo l c) (Xs I l) c)) (Ps_peer I l c 2).symm _) $$ [P2 A2 X2 G2 B2 T2 HO]
  · isplitr; · iexact HR
    isplitl [P2 A2 X2 G2 B2 T2]
    · isplitl [P2]; · iexact P2
      isplitl [A2]; · iexact A2
      isplitl [X2]; · iexact X2
      isplitl [G2]; · iexact G2
      isplitl [B2] <;> iassumption
    iexact HO
  iintro ⟨HO, C2⟩
  rw [runs_bind]
  iapply (ph_stSend I c l hl 1 _ (row2 (part2 (I.wi l c) (I.wo l c) (Xs I l) c)) (Ps_peer I l c 1).symm _) $$ [P1 A1 X1 G1 B1 T1 HO]
  · isplitr; · iexact HR
    isplitl [P1 A1 X1 G1 B1 T1]
    · isplitl [P1]; · iexact P1
      isplitl [A1]; · iexact A1
      isplitl [X1]; · iexact X1
      isplitl [G1]; · iexact G1
      isplitl [B1] <;> iassumption
    iexact HO
  iintro ⟨HO, C1⟩
  iapply (ph_stSend I c l hl 0 _ (row3 (part2 (I.wi l c) (I.wo l c) (Xs I l) c)) (Ps_peer I l c 0).symm _) $$ [P0 A0 X0 G0 B0 T0 HO]
  · isplitr; · iexact HR
    isplitl [P0 A0 X0 G0 B0 T0]
    · isplitl [P0]; · iexact P0
      isplitl [A0]; · iexact A0
      isplitl [X0]; · iexact X0
      isplitl [G0]; · iexact G0
      isplitl [B0] <;> iassumption
    iexact HO
  iintro ⟨HO, C0⟩
  iapply Hk
  isplitl [HO]; · iexact HO
  isplitl [Hps]; · iexact Hps
  iapply (lo_in (fun r => cr c r 2 0))
  isplitl [C3]; · iexact C3
  isplitl [C2]; · iexact C2
  isplitl [C1] <;> iassumption

/-- The end of a layer. -/
theorem runs_fin3 (hl : l < 3) (rest : List Pay) (ha : Above (3 + 2 * l) rest) (K : FVec F S64x512 .f32 → sProp 𝕄) :
    iprop(recs I ∗ (SL up (fun r => cr c r 3 l) ∗ SL up (fun r => ps c l r 3)) ∗ (SL up (fun r => cr c r 0 0) ∗ SL up (fun r => ps c l r 0))
        ∗ (SL up (fun r => cr c r 2 0) ∗ SL up (fun r => ps c l r 2)) ∗ ownl I c l ∗ ow c rest)
      ⊢ iprop(((ow c rest ∗ (SL up (fun r => ps c (l + 1) r 3) ∗ SL up (fun r => rc c (l + 1) r 3) ∗ SL up (rf c) ∗ SL up (xf c) ∗ SL up (rc' c (l + 1)))
          ∗ (SL up (fun r => ps c (l + 1) r 0) ∗ SL up (fun r => rc c (l + 1) r 0) ∗ SL up (leafs I c (l + 1)) ∗ ownl I c (l + 1))
          ∗ (SL up (fun r => ps c (l + 1) r 2) ∗ SL up (fun r => rc c (l + 1) r 2) ∗ SL up (pf c))) -∗ K (As I l c))
        -∗ runs c (fin3 c (row0 (part1 (I.wi l c) (I.wo l c) (Xs I l) c))) K) := by
  unfold fin3
  iintro ⟨#HR, H3, H0, ⟨H2c, H2p⟩, Hown, HO⟩ Hk
  rw [runs_bind]
  iapply (ph_accum I c l hl rest ha up _ _) $$ [H3 HO]
  · isplitr; · iexact HR
    isplitl [H3] <;> iassumption
  rw [← As_eq I l c]
  iintro ⟨HO, H3⟩
  rw [runs_bind]
  iapply (ph_agDone I c l (by omega) rest (ha.mono (by omega)) up _) $$ [H0 HO]
  · isplitr; · iexact HR
    isplitl [H0] <;> iassumption
  iintro ⟨HO, H0p, H0r, Hlf⟩
  rw [runs_bind]
  iapply (ph_rsDone I c l hl rest (ha.mono (by omega)) dn _) $$ [H2c H2p HO]
  · isplitr; · iexact HR
    isplitl [H2c H2p]
    · rw [SL_dn, SL_dn]
      isplitl [H2c] <;> iassumption
    iexact HO
  rw [SL_dn, SL_dn, SL_dn]
  iintro ⟨HO, H2⟩
  ihave Hx := (Entails.of_eq (own_leaves c (bufOf (Xs I l c))).symm) $$ [Hown Hlf]
  · isplitl [Hown]
    · unfold ownl; iexact Hown
    · unfold leafs; iexact Hlf
  rw [runs_bind]
  iapply (runs_stX c (Xs I (l + 1) c) _) $$ [Hx]
  · unfold xfree; iexists _; iexact Hx
  iintro Hx
  ihave Hx := (Entails.of_eq (own_leaves c (bufOf (Xs I (l + 1) c)))) $$ Hx
  icases Hx with ⟨Hown, Hlf⟩
  iapply (runs_pure c _ K)
  iapply Hk
  isplitl [HO]; · iexact HO
  isplitl [H3]; · iexact H3
  isplitl [H0p H0r Hown Hlf]
  · isplitl [H0p]; · iexact H0p
    isplitl [H0r]; · iexact H0r
    isplitl [Hlf]
    · unfold leafs; iexact Hlf
    · unfold ownl; iexact Hown
  iexact H2

end Halves

end Cert.Steps

end
-- ==== Proof.Rows.lean ====
/-
The result's buffer by the devices' rows, and the rules of the stores that fill it.
-/
module

public import proofs.«01_k».proof.Proof.Rules

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (I : Ins F)

/-! ## The rows of a device -/

theorem rows_inb (k : Dev nD) : ∀ a : Fin 2, (![64 * k.val, 0] : Fin 2 → Nat) a + S64x512.size a ≤ S512x512.size a := by
  revert k; decide +kernel
/-- The rectangle of device `k`'s rows, and its elements. -/
abbrev rowsR (k : Dev nD) : Rect S512x512 := Rect.unit (s := S512x512) ![64 * k.val, 0] S64x512.size (rows_inb k)
def rowSet (k : Dev nD) : Finset S512x512.Idx := (rowsR k).set

theorem mem_rowSet (k : Dev nD) (i : S512x512.Idx) : i ∈ rowSet k ↔ (i 0).val / 64 = k.val := by
  unfold rowSet
  rw [Rect.mem_set_unit]
  have h0 : (i 0).val < 512 := (i 0).isLt
  have h1 : (i 1).val < 512 := (i 1).isLt
  constructor
  · intro h
    have := h 0
    simp only [Matrix.cons_val_zero, show S64x512.size (0 : Fin 2) = 64 from rfl] at this
    omega
  · intro h a
    fin_cases a
    · show 64 * k.val ≤ (i 0).val ∧ (i 0).val < 64 * k.val + 64
      omega
    · show 0 ≤ (i 1).val ∧ (i 1).val < 0 + 512
      omega

theorem rowSet_disjoint {k k' : Dev nD} (h : k ≠ k') : Disjoint (rowSet k) (rowSet k') :=
  Finset.disjoint_left.mpr fun i hi hi' => h (Fin.ext (((mem_rowSet k i).mp hi).symm.trans ((mem_rowSet k' i).mp hi')))
theorem rowSet_cover : Finset.univ.biUnion rowSet = (Finset.univ : Finset S512x512.Idx) :=
  Finset.eq_univ_iff_forall.mpr fun i => Finset.mem_biUnion.mpr
    ⟨⟨(i 0).val / 64, by have h0 : (i 0).val < 512 := (i 0).isLt; show _ < 8; omega⟩, Finset.mem_univ _, (mem_rowSet _ i).mpr rfl⟩
theorem slotSet_cover : Finset.univ.biUnion slotSet = (Finset.univ : Finset S8x64x512.Idx) :=
  Finset.eq_univ_iff_forall.mpr fun i => Finset.mem_biUnion.mpr ⟨i 0, Finset.mem_univ _, (mem_slotSet _ i).mpr rfl⟩

/-- The block and the row within it of a row of the result. -/
def blkOf (i : S512x512.Idx) : Dev nD := ⟨(i 0).val / 64, by have h0 : (i 0).val < 512 := (i 0).isLt; show _ < 8; omega⟩
def inBlk (i : S512x512.Idx) : S64x512.Idx := at2 ⟨(i 0).val % 64, Nat.mod_lt _ (by decide)⟩ (i 1)
/-- Eight blocks put one below another. -/
def stack (B : Dev nD → FVec F S64x512 .f32) : S512x512.Idx → Elt F .f32 := fun i => B (blkOf i) (inBlk i)
/-- What the program leaves: device `c`'s own sum in its rows, the peers' rounded blocks in theirs. -/
def outOf (c : Dev nD) : S512x512.Idx → Elt F .f32 := stack fun k => if k = c then As I 2 c else wdn (Xs I 3 k)

theorem rowsR_emb (k : Dev nD) (i : S512x512.Idx) (h : i ∈ rowSet k) : (rowsR k).emb (inBlk i) = i := by
  have h' := (mem_rowSet k i).mp h
  funext a
  apply Fin.ext
  fin_cases a
  · show 64 * k.val + 1 * ((i 0).val % 64) = (i 0).val
    omega
  · show 0 + 1 * (i 1).val = (i 1).val
    omega

/-- A store of a block to a device's rows leaves them holding it. -/
theorem store_oS (k : Dev nD) (f : S512x512.Idx → Elt F .f32) (B : Dev nD → FVec F S64x512 .f32) :
    ∀ i ∈ rowSet k, (oS.access (rowsR k)).write (Elt F) f (B k) Finset.univ i = stack B i := by
  intro i hi
  have hb : blkOf i = k := Fin.ext ((mem_rowSet k i).mp hi)
  unfold stack
  rw [hb]
  have h := View.write_emb_of_mem (v := oS.access (rowsR k)) (Val := Elt F) f (B k) (x := inBlk i) (M := Finset.univ) (Finset.mem_univ _)
  rw [show (oS.access (rowsR k)).emb (inBlk i) = i from rowsR_emb k i hi] at h
  exact h

/-! ## The stores -/

/-- Device `k`'s rows of the result staged at `c`. -/
def oslot (c k : Dev nD) (f : S512x512.Idx → Elt F .f32) : sProp 𝕄 := ((c : Thread nD τ).loc cc0_stg7_0) ↦[rowSet k]{fullShare} f

theorem acc_oS (k : Dev nD) : (oS.access (rowsR k)).set = rowSet k := View.set_slice_whole _ _

theorem ldO_off {off : Fin 2 → ℕ} (k : Dev nD) (h : off = ![64 * k.val, 0]) (inb : ∀ a : Fin 2, off a + S64x512.size a ≤ S512x512.size a)
    (hl : oS.view.LoadsAt (Rect.unit (s := S512x512) off S64x512.size inb).toLoadRect) :
    (Prog.lift (.load oS (Rect.unit (s := S512x512) off S64x512.size inb).toLoadRect hl) : KProg F (Vec F S64x512 .f32))
      = Prog.lift (.load oS (rowsR k).toLoadRect (View.loadsAt_vmem h_S64x512)) := by
  subst h; rfl
theorem stO_off {off : Fin 2 → ℕ} (k : Dev nD) (h : off = ![64 * k.val, 0]) (inb : ∀ a : Fin 2, off a + S64x512.size a ≤ S512x512.size a)
    (v : FVec F S64x512 .f32) (hx : (oS.access (Rect.unit (s := S512x512) off S64x512.size inb)).Stores Finset.univ) :
    ∃ hx', (Prog.lift (.store oS (Rect.unit (s := S512x512) off S64x512.size inb) v Finset.univ hx (.inl rfl)) : KProg F PUnit)
      = Prog.lift (.store oS (rowsR k) v Finset.univ hx' (.inl rfl)) := by
  subst h; exact ⟨hx, rfl⟩

/-- A store of a block to a device's rows, after a load of them. -/
theorem runs_stRows (c k : Dev nD) (B : Dev nD → FVec F S64x512 .f32) (f : S512x512.Idx → Elt F .f32) (hx) (K : PUnit → sProp 𝕄) :
    oslot c k f ⊢ iprop((oslot c k (stack B) -∗ K ⟨⟩) -∗ runs c ((Prog.lift (.load oS (rowsR k).toLoadRect (View.loadsAt_vmem h_S64x512)) : KProg F (Vec F S64x512 .f32))
      >>= fun _ => Prog.lift (.store oS (rowsR k) (B k) Finset.univ hx (.inl rfl))) K) := by
  rw [runs_bind]
  unfold oslot runs Prog.lift
  iintro H Hk
  iapply (wp_load_rect 𝒱₀ (c : Thread nD τ) none Set.univ (m := oS) (r := rowsR k) (S := rowSet k) (acc_oS _).le) $$ H
  iintro H
  rw [wp_ret]; imodintro
  iapply (wp_store 𝒱₀ (c : Thread nD τ) none Set.univ (m := oS) (r := rowsR k) (Mk := Finset.univ) (S := rowSet k) (acc_oS _).le) $$ H
  iintro H
  rw [wp_ret]; imodintro
  iapply Hk
  ihave H := (Entails.of_eq (pointsTo_congr (store_oS k f B))) $$ H
  iexact H

theorem runs_stOM (c : Dev nD) (B : Dev nD → FVec F S64x512 .f32) (f : S512x512.Idx → Elt F .f32) (K : PUnit → sProp 𝕄) :
    oslot c c f ⊢ iprop((oslot c c (stack B) -∗ K ⟨⟩) -∗ runs c (stOM c (B c)) K) := by
  unfold stOM
  rw [ldO_off _ (k0_off7_eq c)]
  obtain ⟨hx', e⟩ := stO_off _ (k0_off7_eq c) (k0_off7_inb c) (B c) (View.stores_vmem_bits_univ h_S64x512 rfl)
  rw [e]
  exact runs_stRows c c B f hx' K
theorem runs_stOP (c : Dev nD) (r : Fin 7) (B : Dev nD → FVec F S64x512 .f32) (f : S512x512.Idx → Elt F .f32) (K : PUnit → sProp 𝕄) :
    oslot c (peer c r) f ⊢ iprop((oslot c (peer c r) (stack B) -∗ K ⟨⟩) -∗ runs c (stOP c r (B (peer c r))) K) := by
  unfold stOP
  rw [ldO_off _ (off8_eq c r)]
  obtain ⟨hx', e⟩ := stO_off _ (off8_eq c r) (k0_off8_inb c r) (B (peer c r)) (View.stores_vmem_bits_univ h_S64x512 rfl)
  rw [e]
  exact runs_stRows c (peer c r) B f hx' K

end Cert.Steps

end
-- ==== Proof.Body.lean ====
/-
The whole program on one device: the entry handshake, the three layers, the last exchange.
-/
module

public import proofs.«01_k».proof.Proof.Halves
public import proofs.«01_k».proof.Proof.Rows

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

section Body
variable (c : Dev nD) (l : ℕ)

/-- A device's positions at its cells at round `l`; the rounds three of them have reached. -/
def pos4 (c : Dev nD) (l m : ℕ) : sProp 𝕄 :=
  iprop(SL up (fun r => ps c l r 0) ∗ SL up (fun r => ps c l r 1) ∗ SL up (fun r => ps c m r 2) ∗ SL up (fun r => ps c m r 3))
def rcs (c : Dev nD) (l : ℕ) : sProp 𝕄 := iprop(SL up (fun r => rc c l r 0) ∗ SL up (fun r => rc c l r 2) ∗ SL up (fun r => rc c l r 3))
/-- Its slots of partials. -/
def slots (c : Dev nD) : sProp 𝕄 := iprop(SL up (pf c) ∗ pfree (F := F) c c ∗ SL up (rf c))
/-- Its own block, in leaves. -/
def own (c : Dev nD) (l : ℕ) : sProp 𝕄 := iprop(SL up (leafs I c l) ∗ ownl I c l)
/-- What a device holds between layers. -/
def held (c : Dev nD) (l : ℕ) : sProp 𝕄 := iprop((SL up (xf c) ∗ SL up (rc' c l)) ∗ own I c l ∗ slots c ∗ rcs c l ∗ pos4 c l l)
/-- What the transfers of round `l` use up: of the blocks, of the partials. -/
def toks (c : Dev nD) (l : ℕ) : sProp 𝕄 := iprop(SL up (tkA c l) ∗ SL up (fun r => cr c r 1 l))
def toksR (c : Dev nD) (l : ℕ) : sProp 𝕄 := iprop(SL up (tkR c l) ∗ SL up (fun r => cr c r 3 l))

/-- In a layer what goes with a block is the peer's slot of partials. -/
theorem hnd_eq (hl : l < 3) (c : Dev nD) : SL (F := F) up (hnd c l) = iprop(SL up (rf c) ∗ SL up (fun r => rc c l r 3)) := by
  rw [← SL_sep]
  refine SL_congr up fun r => ?_
  unfold hnd hand
  rw [if_pos hl]
  rfl
/-- In the last exchange nothing goes with it. -/
theorem hnd_last (c : Dev nD) : (iprop(emp) : sProp 𝕄) ⊢ SL up (hnd (F := F) c 3) := by
  have h : ∀ ls : List (Fin 7), (iprop(emp) : sProp 𝕄) ⊢ SL ls (hnd (F := F) c 3) := by
    intro ls
    induction ls with
    | nil => rw [SL_nil]
    | cons r ls ih =>
      rw [SL_cons]
      iintro -
      isplitr
      · unfold hnd hand
        rw [if_neg (by decide)]
        iempintro
      · iapply ih
        iempintro
  exact h up

/-- A layer. -/
theorem runs_layer (hl : l < 3) (rest : List Pay) (ha : Above (3 + 2 * l) rest) (W1 W2 : sProp 𝕄) (w1 w2) (h1 : Holds1 c W1 w1 (I.wi l c)) (h2 : Holds2 c W2 w2 (I.wo l c))
    (K : FVec F S64x512 .f32 → sProp 𝕄) :
    iprop(recs I ∗ held I c l ∗ (toks c l ∗ toksR c l) ∗ (W1 ∗ W2) ∗ ow c (payL c l ++ rest))
      ⊢ iprop(((ow c rest ∗ held I c (l + 1) ∗ (W1 ∗ W2)) -∗ K (As I l c)) -∗ runs c (layer c w1 w2) K) := by
  have e : payL c l ++ rest = up.map (payAg c l) ++ (hi.map (payRs c l) ++ (lo.map (payRs c l) ++ rest)) := rfl
  have hr : Above (2 + 2 * l) rest := ha.mono (by omega)
  rw [e]
  unfold layer held own slots rcs pos4 toks toksR
  iintro ⟨#HR, ⟨⟨Hxf, Hrc'⟩, ⟨Hlf, Hown⟩, ⟨Hpf, Hpc, Hrf⟩, ⟨Hr0, Hr2, Hr3⟩, Hp0, Hp1, Hp2, Hp3⟩, ⟨⟨HtA, Hc1⟩, HtR, Hc3⟩, ⟨HW1, HW2⟩, HO⟩ Hk
  ihave Hh := (Entails.of_eq (hnd_eq l hl c).symm) $$ [Hrf Hr3]
  · isplitl [Hrf] <;> iassumption
  ihave Hc1 := (Entails.of_eq (SL_up fun r => cr c r 1 l)) $$ Hc1
  icases Hc1 with ⟨Hc1h, Hc1l⟩
  ihave Hp1 := (Entails.of_eq (SL_up fun r => ps c l r 1)) $$ Hp1
  icases Hp1 with ⟨Hp1h, Hp1l⟩
  ihave Hpf := (Entails.of_eq (SL_up (pf c))) $$ Hpf
  icases Hpf with ⟨Hpfh, Hpfl⟩
  ihave Hr2 := (Entails.of_eq (SL_up fun r => rc c l r 2)) $$ Hr2
  icases Hr2 with ⟨Hr2h, Hr2l⟩
  ihave HtR := (Entails.of_eq (SL_up (tkR c l))) $$ HtR
  icases HtR with ⟨HtRh, HtRl⟩
  rw [runs_bind]
  iapply (runs_half1 I c l hl _ ((above_rs c l _ lo (by omega) (by omega)).append hr) W1 W2 w1 w2 h1 h2 _)
    $$ [Hlf Hxf Hh Hr0 Hrc' HtA Hown HW1 HW2 Hpc Hc1h Hp1h Hpfh Hr2h HtRh HO]
  · isplitr; · iexact HR
    isplitl [Hlf Hxf Hh Hr0 Hrc' HtA]
    · isplitl [Hlf]; · iexact Hlf
      isplitl [Hxf]; · iexact Hxf
      isplitl [Hh]; · iexact Hh
      isplitl [Hr0]; · iexact Hr0
      isplitl [Hrc'] <;> iassumption
    isplitl [Hown HW1 HW2 Hpc]
    · isplitl [Hown]; · iexact Hown
      isplitl [HW1]; · iexact HW1
      isplitl [HW2] <;> iassumption
    isplitl [Hc1h Hp1h Hpfh Hr2h HtRh]
    · isplitl [Hc1h]; · iexact Hc1h
      isplitl [Hp1h]; · iexact Hp1h
      isplitl [Hpfh]; · iexact Hpfh
      isplitl [Hr2h] <;> iassumption
    iexact HO
  iintro ⟨HO, ⟨Hown, HW1, HW2, Hpc⟩, Hc0, Hp1h, Hc2h⟩
  rw [runs_bind]
  iapply (runs_half2 I c l hl _ hr _) $$ [Hc1l Hp1l Hpfl Hr2l HtRl HO]
  · isplitr; · iexact HR
    isplitl [Hc1l Hp1l Hpfl Hr2l HtRl]
    · isplitl [Hc1l]; · iexact Hc1l
      isplitl [Hp1l]; · iexact Hp1l
      isplitl [Hpfl]; · iexact Hpfl
      isplitl [Hr2l] <;> iassumption
    iexact HO
  iintro ⟨HO, Hp1l, Hc2l⟩
  iapply (runs_fin3 I c l hl rest ha K) $$ [Hc3 Hp3 Hc0 Hp0 Hc2h Hc2l Hp2 Hown HO]
  · isplitr; · iexact HR
    isplitl [Hc3 Hp3]
    · isplitl [Hc3] <;> iassumption
    isplitl [Hc0 Hp0]
    · isplitl [Hc0] <;> iassumption
    isplitl [Hc2h Hc2l Hp2]
    · isplitl [Hc2h Hc2l]
      · iapply (Entails.of_eq (SL_up fun r => cr c r 2 0).symm)
        isplitl [Hc2h] <;> iassumption
      · iexact Hp2
    isplitl [Hown] <;> iassumption
  iintro ⟨HO, ⟨Hp3, Hr3, Hrf, Hxf, Hrc'⟩, ⟨Hp0, Hr0, Hlf, Hown⟩, Hp2, Hr2, Hpf⟩
  iapply Hk
  isplitl [HO]; · iexact HO
  isplitr [HW1 HW2]
  · isplitl [Hxf Hrc']
    · isplitl [Hxf] <;> iassumption
    isplitl [Hlf Hown]
    · isplitl [Hlf] <;> iassumption
    isplitl [Hpf Hpc Hrf]
    · isplitl [Hpf]; · iexact Hpf
      isplitl [Hpc] <;> iassumption
    isplitl [Hr0 Hr2 Hr3]
    · isplitl [Hr0]; · iexact Hr0
      isplitl [Hr2] <;> iassumption
    isplitl [Hp0]; · iexact Hp0
    isplitl [Hp1h Hp1l]
    · iapply (Entails.of_eq (SL_up fun r => ps c (l + 1) r 1).symm)
      isplitl [Hp1h] <;> iassumption
    isplitl [Hp2] <;> iassumption
  isplitl [HW1] <;> iassumption

/-- One peer's rows of the result. -/
theorem st_outRow (r : Fin 7) (f : S512x512.Idx → Elt F .f32) (K : PUnit → sProp 𝕄) :
    iprop(recs I ∗ (cr c r 1 3 ∗ ps c 3 r 1 ∗ oslot c (peer c r) f) ∗ ow c [])
      ⊢ iprop(((ow c [] ∗ ps c 4 r 1 ∗ xs I c 3 r ∗ oslot c (peer c r) (outOf I c)) -∗ K ⟨⟩) -∗ runs c (outRow c r) K) := by
  unfold outRow cr ps xs
  rw [runs_bind]
  iintro ⟨#HR, ⟨H1, H2, H3⟩, HO⟩ Hk
  iapply (runs_agWait I c r 3 (by decide) [] Above.nil _) $$ [H1 H2 HO]
  · isplitr; · iexact HR
    isplitl [H1]; · iexact H1
    isplitl [H2]; · iexact H2
    iexact HO
  iintro ⟨HO, Hp, -, Hx, -⟩
  rw [runs_bind]
  iapply (runs_ldX c (peer c r) r.succ (peer0_succ c r) _ _ _) $$ Hx
  iintro Hx
  rw [read_xB]
  have e : wdn (Xs I 3 (peer c r)) = (fun k => if k = c then As I 2 c else wdn (Xs I 3 k)) (peer c r) := (if_neg (peer_ne c r)).symm
  rw [e]
  iapply (runs_stOP c r (fun k => if k = c then As I 2 c else wdn (Xs I 3 k)) f K) $$ H3
  iintro H3
  iapply Hk
  isplitl [HO]; · iexact HO
  isplitl [Hp]; · iexact Hp
  isplitl [Hx]; · iexact Hx
  unfold outOf
  iexact H3

/-- The last exchange and the result. -/
theorem runs_tail (f : S512x512.Idx → Elt F .f32) (K : PUnit → sProp 𝕄) :
    iprop(recs I ∗ held I c 3 ∗ toks c 3 ∗ (oslot c c f ∗ SL up fun r => oslot c (peer c r) f) ∗ ow c (pays c 0))
      ⊢ iprop(((ow c [] ∗ (own I c 3 ∗ SL up (xs I c 3)) ∗ slots c ∗ pos4 c 4 3 ∗ (oslot c c (outOf I c) ∗ SL up fun r => oslot c (peer c r) (outOf I c))) -∗ K ⟨⟩)
        -∗ runs c (tail4 c (As I 2 c)) K) := by
  have hs : ∀ (r : Fin 7) (ls : List (Fin 7)) (K : PUnit → sProp 𝕄),
      iprop((cr c r 1 3 ∗ ps c 3 r 1 ∗ oslot c (peer c r) f) ∗ recs I ∗ ow c [])
        ⊢ iprop((((ps c 4 r 1 ∗ xs I c 3 r ∗ oslot c (peer c r) (outOf I c)) ∗ recs I ∗ ow c []) -∗ K ⟨⟩) -∗ runs c (outRow c r) K) := by
    intro r ls K
    iintro ⟨HA, #HR, HO⟩ Hk
    iapply (st_outRow I c r f K) $$ [HA HO]
    · isplitr; · iexact HR
      isplitl [HA] <;> iassumption
    iintro ⟨HO, HB⟩
    iapply Hk
    isplitl [HB]; · iexact HB
    isplitr [HO]; · iexact HR
    iexact HO
  have e : pays c 0 = up.map (payAg c 3) ++ [] := rfl
  rw [e]
  unfold tail4 held own slots rcs pos4 toks
  iintro ⟨#HR, ⟨⟨Hxf, Hrc'⟩, ⟨Hlf, Hown⟩, ⟨Hpf, Hpc, Hrf⟩, ⟨Hr0, -, -⟩, Hp0, Hp1, Hp2, Hp3⟩, ⟨HtA, Hc1⟩, ⟨Hoc, Hop⟩, HO⟩ Hk
  rw [runs_bind]
  iapply (ph_agSend I c 3 (by decide) [] _) $$ [Hlf Hxf Hr0 Hrc' HtA HO]
  · isplitr; · iexact HR
    isplitr [HO]
    · isplitl [Hlf]; · iexact Hlf
      isplitl [Hxf]; · iexact Hxf
      isplitr [Hr0 Hrc' HtA]
      · iapply (hnd_last c)
        iempintro
      isplitl [Hr0]; · iexact Hr0
      isplitl [Hrc'] <;> iassumption
    iexact HO
  iintro ⟨HO, Hc0⟩
  rw [runs_bind]
  have e : As I 2 c = (fun k => if k = c then As I 2 c else wdn (Xs I 3 k)) c := (if_pos rfl).symm
  rw [e]
  iapply (runs_stOM c (fun k => if k = c then As I 2 c else wdn (Xs I 3 k)) f _) $$ Hoc
  iintro Hoc
  rw [runs_bind]
  iapply (runs_each c (outRow c) _ _ (fun _ => iprop(recs I ∗ ow c [])) hs dn _) $$ [Hc1 Hp1 Hop HO]
  · isplitl [Hc1 Hp1 Hop]
    · rw [SL_dn, SL_sep, SL_sep]
      isplitl [Hc1]; · iexact Hc1
      isplitl [Hp1] <;> iassumption
    isplitr [HO]; · iexact HR
    iexact HO
  rw [SL_dn, SL_sep, SL_sep]
  iintro ⟨⟨Hp1, Hxs, Hop⟩, -, HO⟩
  iapply (ph_agDone I c 3 (by decide) [] Above.nil up _) $$ [Hc0 Hp0 HO]
  · isplitr; · iexact HR
    isplitl [Hc0 Hp0]
    · isplitl [Hc0] <;> iassumption
    iexact HO
  iintro ⟨HO, Hp0, -, Hlf⟩
  iapply Hk
  isplitl [HO]; · iexact HO
  isplitl [Hlf Hown Hxs]
  · isplitr [Hxs]
    · isplitl [Hlf] <;> iassumption
    · iexact Hxs
  isplitl [Hpf Hpc Hrf]
  · isplitl [Hpf]; · iexact Hpf
    isplitl [Hpc] <;> iassumption
  isplitl [Hp0 Hp1 Hp2 Hp3]
  · isplitl [Hp0]; · iexact Hp0
    isplitl [Hp1]; · iexact Hp1
    isplitl [Hp2] <;> iassumption
  isplitl [Hoc]
  · unfold outOf; iexact Hoc
  · iexact Hop

/-- The staged input block is the value `X`: the rule of its load. -/
def Holds0 (c : Dev nD) (W : sProp 𝕄) (X : FVec F S64x512 .bf16) : Prop :=
  ∃ v : Vec F S64x512 .bf16, shapeCast S64x512 v shapeCasts_S64x512_S64x512 = X ∧ ∀ K : Vec F S64x512 .bf16 → sProp 𝕄,
    W ⊢ iprop((W -∗ K v) -∗ runs c (Prog.lift (.load xS (Rect.unit (s := S64x512) ![0, 0] S64x512.size inb_S64x512_S64x512_0_0).toLoadRect (View.loadsAt_vmem h_S64x512))) K)

/-- The entry handshake and the first block stored. -/
theorem runs_head (rest : List Pay) (ha : Above 1 rest) (W : sProp 𝕄) (hW : Holds0 c W (I.x c)) (K : PUnit → sProp 𝕄) :
    iprop(recs I ∗ (SL up (fun r => dutyTok ER (barCell (peer c r)) 0 c) ∗ SL up (fun r => xfree c (peer c r)) ∗ cred (tallyAt (barCell c) 0 7)
        ∗ atPos ER (barCell c) 0 ∅ 0 ∗ xfree c c) ∗ W ∗ ow c (up.map (payBar c) ++ rest))
      ⊢ iprop(((ow c rest ∗ (SL up (xf c) ∗ atPos ER (barCell c) 1 ∅ 0 ∗ own I c 0) ∗ W) -∗ K ⟨⟩) -∗ runs c (head0 c) K) := by
  obtain ⟨v, e, hW⟩ := hW
  have hs : ∀ (r : Fin 7) (ls : List (Fin 7)) (K : PUnit → sProp 𝕄),
      iprop((dutyTok ER (barCell (peer c r)) 0 c ∗ xfree c (peer c r)) ∗ recs I ∗ ow c ((r :: ls).map (payBar c) ++ rest))
        ⊢ iprop(((emp ∗ recs I ∗ ow c (ls.map (payBar c) ++ rest)) -∗ K ⟨⟩) -∗ runs c (barSig c r) K) := by
    intro r ls K
    iintro ⟨⟨H1, H2⟩, #HR, HO⟩ Hk
    iapply (runs_barSig I c r (ls.map (payBar c) ++ rest) K) $$ [H1 H2 HO]
    · isplitr; · iexact HR
      isplitl [H1]; · iexact H1
      isplitl [H2]; · iexact H2
      iexact HO
    iintro HO
    iapply Hk
    isplitr; · iempintro
    isplitr [HO]; · iexact HR
    iexact HO
  unfold head0
  iintro ⟨#HR, ⟨H1, H2, Hcr, Hpos, Hxc⟩, HW, HO⟩ Hk
  rw [runs_bind]
  iapply (runs_each c (barSig c) _ (fun _ => iprop(emp)) (fun ls => iprop(recs I ∗ ow c (ls.map (payBar c) ++ rest))) hs up _) $$ [H1 H2 HO]
  · isplitl [H1 H2]
    · rw [SL_sep]
      isplitl [H1] <;> iassumption
    isplitr [HO]; · iexact HR
    iexact HO
  iintro ⟨-, -, HO⟩
  rw [runs_bind]
  iapply (runs_barWait I c rest ha _) $$ [Hcr Hpos HO]
  · isplitr; · iexact HR
    isplitl [Hcr]; · iexact Hcr
    isplitl [Hpos]; · iexact Hpos
    iexact HO
  iintro ⟨HO, Hpos, Hxf⟩
  rw [runs_bind]
  iapply (hW _) $$ HW
  iintro HW
  rw [e]
  iapply (runs_stX c (I.x c) K) $$ Hxc
  iintro Hx
  ihave Hx := (Entails.of_eq (own_leaves c (bufOf (I.x c)))) $$ Hx
  icases Hx with ⟨Hown, Hlf⟩
  iapply Hk
  isplitl [HO]; · iexact HO
  isplitl [Hxf Hpos Hown Hlf]
  · isplitl [Hxf]; · unfold xf; iexact Hxf
    isplitl [Hpos]; · iexact Hpos
    unfold own
    isplitl [Hlf]
    · unfold leafs; iexact Hlf
    · unfold ownl; iexact Hown
  iexact HW

end Body

end Cert.Steps

end
-- ==== Proof.Whole.lean ====
/-
The whole program's rule on one device, and the closing of its cells at the end.
-/
module

public import proofs.«01_k».proof.Proof.Body

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## Facts at round 0 -/

/-- Every DMA cell has reached its first round. -/
theorem recs_reached (a : Fin 4) (x y : Dev nD) : recs I ⊢ (reached ER (cell a x y) 0 : sProp 𝕄) := by
  iintro #HR
  ihave #Hk := (recs_cell I a x y) $$ HR
  unfold known
  icases Hk with ⟨-, #H⟩
  iexact H

/-- What everyone knows of every peer, of all peers. -/
theorem recs_SL (Φ : Fin 7 → sProp 𝕄) (h : ∀ r, recs I ⊢ Φ r) (ls : List (Fin 7)) : recs I ⊢ SL ls Φ := by
  induction ls with
  | nil => rw [SL_nil]; iintro -; iempintro
  | cons r ls ih =>
    rw [SL_cons]
    iintro #HR
    isplitr
    · iapply (h r); iexact HR
    · iapply ih; iexact HR

/-! ## The whole program -/

section Whole
variable (c : Dev nD)

/-- What a device starts with besides its memory: its duties, its credit and its positions. -/
def begins : sProp 𝕄 :=
  iprop((SL up (fun r => dutyTok (ER (F := F)) (barCell (peer c r)) 0 c) ∗ cred (tallyAt (barCell c) 0 7) ∗ atPos (ER (F := F)) (barCell c) 0 ∅ 0)
    ∗ pos4 c 0 0 ∗ (toks c 0 ∗ toksR c 0) ∗ (toks c 1 ∗ toksR c 1) ∗ (toks c 2 ∗ toksR c 2) ∗ toks c 3)
/-- The result's buffer by rows at one contents. -/
def outs (f : S512x512.Idx → Elt F .f32) : sProp 𝕄 := iprop(oslot c c f ∗ SL up fun r => oslot c (peer c r) f)

/-- The whole program on device `c`. -/
theorem runs_prog (f : S512x512.Idx → Elt F .f32) (W0 W1 W2 W3 W4 W5 W6 : sProp 𝕄) (h0 : Holds0 c W0 (I.x c))
    (h1 : Holds1 c W1 (Memref.whole cc0_stg1_0) (I.wi 0 c)) (h2 : Holds2 c W2 (Memref.whole cc0_stg2_0) (I.wo 0 c))
    (h3 : Holds1 c W3 (Memref.whole cc0_stg3_0) (I.wi 1 c)) (h4 : Holds2 c W4 (Memref.whole cc0_stg4_0) (I.wo 1 c))
    (h5 : Holds1 c W5 (Memref.whole cc0_stg5_0) (I.wi 2 c)) (h6 : Holds2 c W6 (Memref.whole cc0_stg6_0) (I.wo 2 c)) (K : PUnit → sProp 𝕄) :
    iprop(recs I ∗ begins c ∗ ((xfree c c ∗ SL up fun r => xfree c (peer c r)) ∗ slots c) ∗ (W0 ∗ (W1 ∗ W2) ∗ (W3 ∗ W4) ∗ (W5 ∗ W6)) ∗ outs c f ∗ ow c (payAll c))
      ⊢ iprop(((ow c [] ∗ (atPos ER (barCell c) 1 ∅ 0 ∗ pos4 c 4 3) ∗ ((own I c 3 ∗ SL up (xs I c 3)) ∗ slots c)
          ∗ (W0 ∗ (W1 ∗ W2) ∗ (W3 ∗ W4) ∗ (W5 ∗ W6)) ∗ outs c (outOf I c)) -∗ K ⟨⟩) -∗ runs c (prog c) K) := by
  have e : payAll c = up.map (payBar c) ++ pays c 3 := rfl
  rw [e]
  unfold prog begins outs
  iintro ⟨#HR, ⟨⟨Hbt, Hbc, Hbp⟩, Hpos, HT0, HT1, HT2, HT3⟩, ⟨⟨Hxc, Hxp⟩, Hsl⟩, ⟨HW0, HW12, HW34, HW56⟩, Hout, HO⟩ Hk
  rw [runs_bind]
  iapply (runs_head I c (pays c 3) ((above_pays c 3 le_rfl).mono (by decide)) W0 h0 _) $$ [Hbt Hxp Hbc Hbp Hxc HW0 HO]
  · isplitr; · iexact HR
    isplitr [HW0 HO]
    · isplitl [Hbt]; · iexact Hbt
      isplitl [Hxp]; · iexact Hxp
      isplitl [Hbc]; · iexact Hbc
      isplitl [Hbp] <;> iassumption
    isplitl [HW0] <;> iassumption
  iintro ⟨HO, ⟨Hxf, Hbp, Hown⟩, HW0⟩
  ihave Hheld : held I c 0 $$ [Hxf Hown Hsl Hpos]
  · unfold held
    isplitl [Hxf]
    · isplitl [Hxf]; · iexact Hxf
      iapply (recs_SL I (rc' c 0) (fun r => recs_reached I 1 (peer c r) c) up); iexact HR
    isplitl [Hown]; · iexact Hown
    isplitl [Hsl]; · iexact Hsl
    isplitr [Hpos]
    · unfold rcs
      isplitr
      · iapply (recs_SL I (fun r => rc c 0 r 0) (fun r => recs_reached I 0 c (peer c r)) up); iexact HR
      isplitr
      · iapply (recs_SL I (fun r => rc c 0 r 2) (fun r => recs_reached I 2 c (peer c r)) up); iexact HR
      · iapply (recs_SL I (fun r => rc c 0 r 3) (fun r => recs_reached I 3 c (peer c r)) up); iexact HR
    iexact Hpos
  rw [show pays c 3 = payL c 0 ++ pays c 2 from rfl, runs_bind]
  iapply (runs_layer I c 0 (by decide) (pays c 2) (above_pays c 2 (by decide)) W1 W2 _ _ h1 h2 _) $$ [Hheld HT0 HW12 HO]
  · isplitr; · iexact HR
    isplitl [Hheld]; · iexact Hheld
    isplitl [HT0]; · iexact HT0
    isplitl [HW12] <;> iassumption
  iintro ⟨HO, Hheld, HW12⟩
  rw [show pays c 2 = payL c 1 ++ pays c 1 from rfl, runs_bind]
  iapply (runs_layer I c 1 (by decide) (pays c 1) (above_pays c 1 (by decide)) W3 W4 _ _ h3 h4 _) $$ [Hheld HT1 HW34 HO]
  · isplitr; · iexact HR
    isplitl [Hheld]; · iexact Hheld
    isplitl [HT1]; · iexact HT1
    isplitl [HW34] <;> iassumption
  iintro ⟨HO, Hheld, HW34⟩
  rw [show pays c 1 = payL c 2 ++ pays c 0 from rfl, runs_bind]
  iapply (runs_layer I c 2 (by decide) (pays c 0) (above_pays c 0 (by decide)) W5 W6 _ _ h5 h6 _) $$ [Hheld HT2 HW56 HO]
  · isplitr; · iexact HR
    isplitl [Hheld]; · iexact Hheld
    isplitl [HT2]; · iexact HT2
    isplitl [HW56] <;> iassumption
  iintro ⟨HO, Hheld, HW56⟩
  iapply (runs_tail I c f K) $$ [Hheld HT3 Hout HO]
  · isplitr; · iexact HR
    isplitl [Hheld]; · iexact Hheld
    isplitl [HT3]; · iexact HT3
    isplitl [Hout] <;> iassumption
  iintro ⟨HO, Hx, Hsl, Hpos, Hout⟩
  iapply Hk
  isplitl [HO]; · iexact HO
  isplitl [Hbp Hpos]
  · isplitl [Hbp] <;> iassumption
  isplitl [Hx Hsl]
  · isplitl [Hx] <;> iassumption
  isplitl [HW0 HW12 HW34 HW56]
  · isplitl [HW0]; · iexact HW0
    isplitl [HW12]; · iexact HW12
    isplitl [HW34] <;> iassumption
  iexact Hout

/-! ## The end -/

/-- A family over the DMA cells of a device: each array's own cell and its peers'. -/
theorem cells_split (Φ : Fin 4 → Dev nD → sProp 𝕄) :
    bigSep Finset.univ (fun p : Fin 4 × Dev nD => Φ p.1 p.2)
      = iprop((Φ 0 c ∗ SL up fun r => Φ 0 (peer c r)) ∗ (Φ 1 c ∗ SL up fun r => Φ 1 (peer c r))
        ∗ (Φ 2 c ∗ SL up fun r => Φ 2 (peer c r)) ∗ (Φ 3 c ∗ SL up fun r => Φ 3 (peer c r))) := by
  rw [bigSep_univ_prod, bigSep_univ_eq_bigSepL [0, 1, 2, 3] (by decide) (by decide), ← SL_dev c (Φ 0), ← SL_dev c (Φ 1), ← SL_dev c (Φ 2), ← SL_dev c (Φ 3)]
  rfl

/-- A cell past its last duty closes. -/
theorem close_cell (a : Fin 4) (t : Dev nD) (l : ℕ) (h : ∀ l', l ≤ l' → (Rd I).duties (cell a c t) l' = ∅) :
    iprop(recs I ∗ atPos ER (cell a c t) l ∅ 0) ⊢ iprop(|={Set.univ}=> semVal (cell a c t) 0) := by
  iintro ⟨#HR, Hp⟩
  ihave #Hk := (recs_cell I a c t) $$ HR
  unfold known inv
  icases Hk with ⟨⟨%κ, #Hi⟩, -⟩
  iapply (Rounds.cell_close ER (Rd I) (Set.mem_univ κ) (fun h => h) (R := l) h)
  isplitr; · iexact Hi
  iexact Hp

/-- The barrier cell past its round closes. -/
theorem close_bar : iprop(recs I ∗ atPos ER (barCell c) 1 ∅ 0) ⊢ iprop(|={Set.univ}=> semVal (barCell c) 0) := by
  iintro ⟨#HR, Hp⟩
  ihave #Hk := (recs_bar I c) $$ HR
  unfold known inv
  icases Hk with ⟨⟨%κ, #Hi⟩, -⟩
  iapply (Rounds.cell_close ER (Rd I) (Set.mem_univ κ) (fun h => h) (R := 1) (duties_bar_late I c))
  isplitr; · iexact Hi
  iexact Hp

theorem close_SL (Φ Ψ : Fin 7 → sProp 𝕄) (h : ∀ r, iprop(recs I ∗ Φ r) ⊢ iprop(|={Set.univ}=> Ψ r)) (ls : List (Fin 7)) :
    iprop(recs I ∗ SL ls Φ) ⊢ iprop(|={Set.univ}=> SL ls Ψ) := by
  induction ls with
  | nil => rw [SL_nil, SL_nil]; iintro -; imodintro; iempintro
  | cons r ls ih =>
    rw [SL_cons, SL_cons]
    iintro ⟨#HR, H, Hs⟩
    imod (h r) $$ [H] with H
    · isplitr; · iexact HR
      iexact H
    imod ih $$ [Hs] with Hs
    · isplitr; · iexact HR
      iexact Hs
    imodintro
    isplitl [H] <;> iassumption

/-- One array's cells close. -/
theorem close_array (a : Fin 4) (l : ℕ) (h : ∀ t l', l ≤ l' → ¬ rounds (qs a t) l') :
    iprop(recs I ∗ atPos ER (cell a c c) 0 ∅ 0 ∗ SL up (fun r => ps c l r a))
      ⊢ iprop(|={Set.univ}=> (semVal (cell a c c) 0 ∗ SL up fun r => semVal (cell a c (peer c r)) 0)) := by
  iintro ⟨#HR, H, Hs⟩
  imod (close_cell I c a c 0 (fun l' _ => duties_own I c a l')) $$ [H] with H
  · isplitr; · iexact HR
    iexact H
  imod (close_SL I (fun r => ps c l r a) (fun r => semVal (cell a c (peer c r)) 0)
    (fun r => close_cell I c a (peer c r) l (fun l' hl => duties_late I c (peer c r) a l' (h _ l' hl))) up) $$ [Hs] with Hs
  · isplitr; · iexact HR
    iexact Hs
  imodintro
  isplitl [H] <;> iassumption

/-- Past its last round a cell has no duties. -/
theorem not_rounds (a : Fin 4) (t : Dev nD) (l' : ℕ) (h : (if a.val < 2 then 4 else 3) ≤ l') : ¬ rounds (qs a t) l' := by
  have ht : t.val < 8 := t.isLt
  unfold rounds
  rintro ⟨-, h'⟩
  by_cases ha : a.val < 2
  · rw [if_pos ha] at h
    rw [if_pos (by show 8 + 8 * a.val + t.val < 24; omega)] at h'
    omega
  · rw [if_neg ha] at h
    rw [if_neg (by show ¬ 8 + 8 * a.val + t.val < 24; omega)] at h'
    omega

/-- A device's positions at the cells of its own index, which no transfer uses. -/
def posOwn : sProp 𝕄 :=
  iprop(atPos (ER (F := F)) (cell 0 c c) 0 ∅ 0 ∗ atPos (ER (F := F)) (cell 1 c c) 0 ∅ 0 ∗ atPos (ER (F := F)) (cell 2 c c) 0 ∅ 0 ∗ atPos (ER (F := F)) (cell 3 c c) 0 ∅ 0)

/-- All of a device's cells close at zero. -/
theorem close_all : iprop(recs I ∗ (atPos ER (barCell c) 1 ∅ 0 ∗ pos4 c 4 3) ∗ posOwn c)
    ⊢ iprop(|={Set.univ}=> (semVal (barCell c) 0 ∗ bigSep Finset.univ fun p : Fin 4 × Dev nD => semVal (cell p.1 c p.2) 0)) := by
  rw [cells_split c fun a t => semVal (cell a c t) 0]
  unfold pos4 posOwn
  iintro ⟨#HR, ⟨Hb, H0, H1, H2, H3⟩, P0, P1, P2, P3⟩
  imod (close_bar I c) $$ [Hb] with Hb
  · isplitr; · iexact HR
    iexact Hb
  imod (close_array I c 0 4 (fun t l' h => not_rounds 0 t l' h)) $$ [H0 P0] with H0
  · isplitr; · iexact HR
    isplitl [P0] <;> iassumption
  imod (close_array I c 1 4 (fun t l' h => not_rounds 1 t l' h)) $$ [H1 P1] with H1
  · isplitr; · iexact HR
    isplitl [P1] <;> iassumption
  imod (close_array I c 2 3 (fun t l' h => not_rounds 2 t l' h)) $$ [H2 P2] with H2
  · isplitr; · iexact HR
    isplitl [P2] <;> iassumption
  imod (close_array I c 3 3 (fun t l' h => not_rounds 3 t l' h)) $$ [H3 P3] with H3
  · isplitr; · iexact HR
    isplitl [P3] <;> iassumption
  imodintro
  isplitl [Hb]; · iexact Hb
  isplitl [H0]; · iexact H0
  isplitl [H1]; · iexact H1
  isplitl [H2] <;> iassumption

end Whole

end Cert.Steps

end
-- ==== Proof.Ends.lean ====
/-
The kernel's buffers split into slots at the start and joined again at the end.
-/
module

public import proofs.«01_k».proof.Proof.Whole

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## A whole buffer by parts -/

section Parts
variable {ℓ : Loc nD τ sig} (P : Dev nD → Finset (Idx ℓ))

omit [FloatOps F] in
theorem split_whole (hd : ∀ k k', k ≠ k' → Disjoint (P k) (P k')) (hc : Finset.univ.biUnion P = Finset.univ) (f : Buf (Elt F) ℓ) :
    (ℓ ↦{fullShare} f : sProp 𝕄) = bigSep Finset.univ fun k => ℓ ↦[P k]{fullShare} f := by
  rw [← pointsTo_biUnion Finset.univ P fun k _ k' _ h => hd k k' h, hc]

omit [FloatOps F] in
/-- Parts at some contents each make the whole at some contents. -/
theorem join_whole (hd : ∀ k k', k ≠ k' → Disjoint (P k) (P k')) (hc : Finset.univ.biUnion P = Finset.univ) (f₀ : Buf (Elt F) ℓ) :
    (bigSep Finset.univ fun k => (iprop(∃ f : Buf (Elt F) ℓ, ℓ ↦[P k]{fullShare} f) : sProp 𝕄)) ⊢ iprop(∃ f : Buf (Elt F) ℓ, ℓ ↦{fullShare} f) := by
  haveI : Nonempty (Buf (Elt F) ℓ) := ⟨f₀⟩
  iintro H
  ihave H := (BI.bigSep_exists_pi Finset.univ (fun (k : Dev nD) (f : Buf (Elt F) ℓ) => (ℓ ↦[P k]{fullShare} f : sProp 𝕄))) $$ H
  icases H with ⟨%fs, H⟩
  ihave H := (pointsTo_biUnion_join Finset.univ P fs f₀ fun k _ k' _ h => hd k k' h) $$ H
  icases H with ⟨%g, -, H⟩
  rw [hc]
  iexists g
  iexact H

end Parts

/-! ## The three scratch buffers and the result's -/

section Bufs
variable (c : Dev nD)

/-- Each scratch buffer at some contents. -/
def bufs : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem disj_slot (k k' : Dev nD) (h : k ≠ k') : Disjoint (slotSet k) (slotSet k') := slotSet_disjoint h

omit [FloatOps F] in
theorem x_out : (iprop(∃ f : Buf (Elt F) ((c : Thread nD τ).loc cc0_scratch0), ((c : Thread nD τ).loc cc0_scratch0) ↦{fullShare} f) : sProp 𝕄)
    ⊢ iprop(xfree c c ∗ SL up fun r => xfree c (peer c r)) := by
  have hm : ∀ f : Buf (Elt F) ((c : Thread nD τ).loc cc0_scratch0), (bigSep Finset.univ fun k => (((c : Thread nD τ).loc cc0_scratch0) ↦[slotSet k]{fullShare} f : sProp 𝕄))
      ⊢ bigSep Finset.univ fun k => xfree c k := fun f => BI.bigSep_mono fun k _ =>
    show (((c : Thread nD τ).loc cc0_scratch0) ↦[slotSet k]{fullShare} f : sProp 𝕄) ⊢ xfree c k from by
      unfold xfree xslot
      iintro H
      iexists f
      iexact H
  rw [← SL_dev c fun k => xfree c k]
  iintro ⟨%f, H⟩
  ihave H := (Entails.of_eq (split_whole (F := F) (ℓ := (c : Thread nD τ).loc cc0_scratch0) slotSet disj_slot slotSet_cover f)) $$ H
  iapply (hm f)
  iexact H
omit [FloatOps F] in
theorem p_out : (iprop(∃ f : Buf (Elt F) ((c : Thread nD τ).loc cc0_scratch1), ((c : Thread nD τ).loc cc0_scratch1) ↦{fullShare} f) : sProp 𝕄)
    ⊢ iprop(pfree c c ∗ SL up fun r => pfree c (peer c r)) := by
  have hm : ∀ f : Buf (Elt F) ((c : Thread nD τ).loc cc0_scratch1), (bigSep Finset.univ fun k => (((c : Thread nD τ).loc cc0_scratch1) ↦[slotSet k]{fullShare} f : sProp 𝕄))
      ⊢ bigSep Finset.univ fun k => pfree c k := fun f => BI.bigSep_mono fun k _ =>
    show (((c : Thread nD τ).loc cc0_scratch1) ↦[slotSet k]{fullShare} f : sProp 𝕄) ⊢ pfree c k from by
      unfold pfree pslot
      iintro H
      iexists f
      iexact H
  rw [← SL_dev c fun k => pfree c k]
  iintro ⟨%f, H⟩
  ihave H := (Entails.of_eq (split_whole (F := F) (ℓ := (c : Thread nD τ).loc cc0_scratch1) slotSet disj_slot slotSet_cover f)) $$ H
  iapply (hm f)
  iexact H
omit [FloatOps F] in
theorem r_out : (iprop(∃ f : Buf (Elt F) ((c : Thread nD τ).loc cc0_scratch2), ((c : Thread nD τ).loc cc0_scratch2) ↦{fullShare} f) : sProp 𝕄)
    ⊢ iprop(rfree c c ∗ SL up fun r => rfree c (peer c r)) := by
  have hm : ∀ f : Buf (Elt F) ((c : Thread nD τ).loc cc0_scratch2), (bigSep Finset.univ fun k => (((c : Thread nD τ).loc cc0_scratch2) ↦[slotSet k]{fullShare} f : sProp 𝕄))
      ⊢ bigSep Finset.univ fun k => rfree c k := fun f => BI.bigSep_mono fun k _ =>
    show (((c : Thread nD τ).loc cc0_scratch2) ↦[slotSet k]{fullShare} f : sProp 𝕄) ⊢ rfree c k from by
      unfold rfree rslot
      iintro H
      iexists f
      iexact H
  rw [← SL_dev c fun k => rfree c k]
  iintro ⟨%f, H⟩
  ihave H := (Entails.of_eq (split_whole (F := F) (ℓ := (c : Thread nD τ).loc cc0_scratch2) slotSet disj_slot slotSet_cover f)) $$ H
  iapply (hm f)
  iexact H

omit [FloatOps F] in
/-- The scratch buffers as the slots the program starts from. -/
theorem bufs_out : bufs (F := F) c ⊢ iprop(((xfree c c ∗ SL up fun r => xfree c (peer c r)) ∗ slots c) ∗ rfree c c) := by
  unfold bufs slots
  iintro ⟨Hx, Hp, Hr⟩
  ihave Hx := (x_out (F := F) c) $$ Hx
  ihave Hp := (p_out (F := F) c) $$ Hp
  ihave Hr := (r_out (F := F) c) $$ Hr
  icases Hp with ⟨Hpc, Hp⟩
  icases Hr with ⟨Hrc, Hr⟩
  isplitr [Hrc]
  · isplitl [Hx]; · iexact Hx
    isplitl [Hp]; · unfold pf; iexact Hp
    isplitl [Hpc]; · iexact Hpc
    unfold rf; iexact Hr
  iexact Hrc

/-- The slots the program ends with as the scratch buffers. -/
theorem bufs_in : iprop(((own I c 3 ∗ SL up (xs I c 3)) ∗ slots c) ∗ rfree c c) ⊢ bufs c := by
  have f₀ : S8x64x512.Idx → Elt F .bf16 := bufOf (I.x c)
  have hx : iprop(own I c 3 ∗ SL up (xs I c 3)) ⊢ (iprop(xfree c c ∗ SL up fun r => xfree c (peer c r)) : sProp 𝕄) := by
    have hm : SL up (xs I c 3) ⊢ SL up fun r => xfree c (peer c r) := SL_mono up fun r => by
      unfold xs xfree
      iintro H
      iexists _
      iexact H
    unfold own ownl leafs
    iintro ⟨⟨Hl, Ho⟩, Hs⟩
    isplitl [Hl Ho]
    · unfold xfree
      iexists (bufOf (Xs I 3 c))
      rw [own_leaves]
      isplitl [Ho] <;> iassumption
    · iapply hm
      iexact Hs
  unfold bufs slots
  iintro ⟨⟨Hx, Hp, Hpc, Hr⟩, Hrc⟩
  ihave Hx := hx $$ Hx
  ihave Hx := (Entails.of_eq (SL_dev c fun k => xfree (F := F) c k).symm) $$ Hx
  isplitl [Hx]
  · iapply (join_whole (F := F) (ℓ := (c : Thread nD τ).loc cc0_scratch0) slotSet disj_slot slotSet_cover f₀)
    unfold xfree xslot
    iexact Hx
  isplitl [Hp Hpc]
  · iapply (join_whole (F := F) (ℓ := (c : Thread nD τ).loc cc0_scratch1) slotSet disj_slot slotSet_cover f₀)
    ihave H : iprop(pfree (F := F) c c ∗ SL up fun r => pfree c (peer c r)) $$ [Hp Hpc]
    · isplitl [Hpc]; · iexact Hpc
      unfold pf; iexact Hp
    ihave H := (Entails.of_eq (SL_dev c fun k => pfree (F := F) c k).symm) $$ H
    unfold pfree pslot
    iexact H
  · iapply (join_whole (F := F) (ℓ := (c : Thread nD τ).loc cc0_scratch2) slotSet disj_slot slotSet_cover f₀)
    ihave H : iprop(rfree (F := F) c c ∗ SL up fun r => rfree c (peer c r)) $$ [Hr Hrc]
    · isplitl [Hrc]; · iexact Hrc
      unfold rf; iexact Hr
    ihave H := (Entails.of_eq (SL_dev c fun k => rfree (F := F) c k).symm) $$ H
    unfold rfree rslot
    iexact H

omit [FloatOps F] in
/-- The result's buffer is its rows by device. -/
theorem outs_eq (f : Buf (Elt F) ((c : Thread nD τ).loc cc0_stg7_0)) : (((c : Thread nD τ).loc cc0_stg7_0) ↦{fullShare} f : sProp 𝕄) = outs c f := by
  unfold outs oslot
  rw [← SL_dev c fun k => (((c : Thread nD τ).loc cc0_stg7_0) ↦[rowSet k]{fullShare} f : sProp 𝕄)]
  exact split_whole (F := F) (ℓ := (c : Thread nD τ).loc cc0_stg7_0) rowSet (fun _ _ h => rowSet_disjoint h) rowSet_cover f

end Bufs

end Cert.Steps

end
-- ==== Proof.Fund.lean ====
/-
What the launch gives each device: its cells running the protocol, its positions, the duties it pays.
-/
module

public import proofs.«01_k».proof.Proof.Whole

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## Cells and duties -/

theorem qs_inj {a a' : Fin 4} {t t' : Dev nD} (h : qs a t = qs a' t') : a = a' ∧ t = t' := by
  have h' : 8 + 8 * a.val + t.val = 8 + 8 * a'.val + t'.val := congrArg Fin.val h
  have ht : t.val < 8 := t.isLt
  have ht' : t'.val < 8 := t'.isLt
  exact ⟨Fin.ext (by omega), Fin.ext (by omega)⟩
theorem dev_inj {c c' : Dev nD} {s s' : SemLoc sig} (h : (((c : Thread nD τ), s) : GSem nD τ sig) = ((c' : Thread nD τ), s')) : c = c' ∧ s = s' :=
  ⟨congrArg (fun g : GSem nD τ sig => g.1.1) h, congrArg Prod.snd h⟩
theorem cell_inj {a a' : Fin 4} {c c' t t' : Dev nD} (h : cell a c t = cell a' c' t') : a = a' ∧ c = c' ∧ t = t' := by
  obtain ⟨h1, h2⟩ := dev_inj h
  have h3 : qs a t = qs a' t' := by injection h2
  exact ⟨(qs_inj h3).1, h1, (qs_inj h3).2⟩
theorem bar_ne_cell (c c' t : Dev nD) (a : Fin 4) : barCell c ≠ cell a c' t := fun h => by
  have := (dev_inj h).2
  cases this

def barE : Dev nD ↪ GSem nD τ sig := ⟨fun c => barCell c, fun _ _ h => (dev_inj h).1⟩
def cellE : Dev nD × Fin 4 × Dev nD ↪ GSem nD τ sig := ⟨fun p => cell p.2.1 p.1 p.2.2, fun _ _ h => by
  obtain ⟨h1, h2, h3⟩ := cell_inj h
  exact Prod.ext h2 (Prod.ext h1 h3)⟩
/-- All cells. -/
def allCells : Finset (GSem nD τ sig) := Finset.univ.map barE ∪ Finset.univ.map cellE

/-- The duty of round `l` device `c` pays at distance `1 + r`: at its own send cells' and the peer's receive cells. -/
def dutyAt (p : Dev nD × Fin 4 × Fin 7 × Fin 4) : GSem nD τ sig × ℕ × Dev nD :=
  if p.2.2.2 = 0 ∨ p.2.2.2 = 2 then (cell p.2.2.2 p.1 (peer p.1 p.2.2.1), p.2.1.val, peer p.1 p.2.2.1)
  else (cell p.2.2.2 (peer p.1 p.2.2.1) p.1, p.2.1.val, p.1)
theorem dutyAt_inj : Function.Injective dutyAt := by
  rintro ⟨c, l, r, a⟩ ⟨c', l', r', a'⟩ h
  have hl : l = l' := by
    have := congrArg (fun x : GSem nD τ sig × ℕ × Dev nD => x.2.1) h
    unfold dutyAt at this
    refine Fin.ext ?_
    dsimp only at this
    split at this <;> split at this <;> exact this
  have hc := congrArg (fun x : GSem nD τ sig × ℕ × Dev nD => x.1) h
  unfold dutyAt at hc
  dsimp only at hc
  subst hl
  by_cases ha : a = 0 ∨ a = 2
  · rw [if_pos ha] at hc
    by_cases ha' : a' = 0 ∨ a' = 2
    · rw [if_pos ha'] at hc
      obtain ⟨h1, h2, h3⟩ := cell_inj hc
      subst h1; subst h2
      rw [peer_inj c r r' h3]
    · rw [if_neg ha'] at hc
      exact absurd ((cell_inj hc).1 ▸ ha) ha'
  · rw [if_neg ha] at hc
    by_cases ha' : a' = 0 ∨ a' = 2
    · rw [if_pos ha'] at hc
      exact absurd ((cell_inj hc).1.symm ▸ ha') ha
    · rw [if_neg ha'] at hc
      obtain ⟨h1, h2, h3⟩ := cell_inj hc
      subst h1; subst h3
      rw [peer_inj c r r' h2]
def dutyBar (p : Dev nD × Fin 7) : GSem nD τ sig × ℕ × Dev nD := (barCell (peer p.1 p.2), 0, p.1)
theorem dutyBar_inj : Function.Injective dutyBar := by
  rintro ⟨c, r⟩ ⟨c', r'⟩ h
  have h1 : c = c' := congrArg (fun x : GSem nD τ sig × ℕ × Dev nD => x.2.2) h
  subst h1
  have h2 : barCell (peer c r) = barCell (peer c r') := congrArg (fun x : GSem nD τ sig × ℕ × Dev nD => x.1) h
  rw [peer_inj c r r' (dev_inj h2).1]
/-- All duties. -/
def allDuties : Finset (GSem nD τ sig × ℕ × Dev nD) := Finset.univ.map ⟨dutyBar, dutyBar_inj⟩ ∪ Finset.univ.map ⟨dutyAt, dutyAt_inj⟩

theorem cells_disj : Disjoint (Finset.univ.map barE) (Finset.univ.map cellE) := Finset.disjoint_left.mpr fun g h h' => by
  obtain ⟨c, -, rfl⟩ := Finset.mem_map.mp h
  obtain ⟨p, -, e⟩ := Finset.mem_map.mp h'
  exact bar_ne_cell _ _ _ _ e.symm
theorem duties_disj : Disjoint (Finset.univ.map (⟨dutyBar, dutyBar_inj⟩ : _ ↪ _)) (Finset.univ.map ⟨dutyAt, dutyAt_inj⟩) := Finset.disjoint_left.mpr fun g h h' => by
  obtain ⟨c, -, rfl⟩ := Finset.mem_map.mp h
  obtain ⟨p, -, e⟩ := Finset.mem_map.mp h'
  have e' : (dutyAt p).1 = barCell (peer c.1 c.2) := congrArg Prod.fst e
  unfold dutyAt at e'
  split at e' <;> exact bar_ne_cell _ _ _ _ e'.symm

/-! ## What a device gets -/

section Gets
variable (c : Dev nD)

/-- A family over a device's cells. -/
def atCells (Φ : GSem nD τ sig → sProp 𝕄) : sProp 𝕄 := iprop(Φ (barCell c) ∗ bigSep Finset.univ fun p : Fin 4 × Dev nD => Φ (cell p.1 c p.2))

/-- The duties of one round device `c` pays. -/
def payRound (l : ℕ) : sProp 𝕄 := iprop(SL up (tkA (F := F) c l) ∗ SL up (tkR c l))
def pays4 : sProp 𝕄 := iprop(payRound (F := F) c 0 ∗ payRound c 1 ∗ payRound c 2 ∗ payRound c 3)
def payFirst : sProp 𝕄 := SL up fun r => dutyTok (ER (F := F)) (barCell (peer c r)) 0 c

/-- What the launch element deals device `c`. -/
def deal : sProp 𝕄 :=
  iprop(atCells c (fun g => roundState ER (Rd I) g 0) ∗ atCells c (fun g => atPos (ER (F := F)) g 0 ∅ 0) ∗ atCells c (fun g => reached (ER (F := F)) g 0)
    ∗ payFirst c ∗ pays4 c)

omit [FloatOps F] in
theorem all_cells (Φ : GSem nD τ sig → sProp 𝕄) : bigSep allCells Φ = bigSep Finset.univ fun c : Dev nD => atCells c Φ := by
  unfold allCells atCells
  rw [bigSep_union cells_disj, BI.bigSep_map, BI.bigSep_map, bigSep_univ_prod, bigSep_sep']
  rfl

omit [FloatOps F] in
theorem all_duties : bigSep allDuties (fun x => (dutyTok ER x.1 x.2.1 x.2.2 : sProp 𝕄)) = bigSep Finset.univ fun c : Dev nD => iprop(payFirst c ∗ pays4 c) := by
  have h4 : ∀ Φ : Fin 4 → sProp 𝕄, bigSep Finset.univ Φ = iprop(Φ 0 ∗ Φ 1 ∗ Φ 2 ∗ Φ 3) := bigSep_univ_eq_bigSepL [0, 1, 2, 3] (by decide) (by decide)
  have hl : ∀ (c : Dev nD) (l : Fin 4), bigSep Finset.univ (fun q : Fin 7 × Fin 4 => (dutyTok ER (dutyAt (c, l, q)).1 (dutyAt (c, l, q)).2.1 (dutyAt (c, l, q)).2.2 : sProp 𝕄))
      = payRound c l.val := fun c l => by
    unfold payRound
    rw [bigSep_univ_prod, SL_univ, ← SL_sep]
    refine SL_congr up fun r => ?_
    rw [h4]
    unfold tkA tkR
    exact (Entails.antisymm (sep_assoc (PROP := sProp 𝕄)).1 (sep_assoc (PROP := sProp 𝕄)).2).symm
  unfold allDuties
  have e1 : bigSep Finset.univ (fun p : Dev nD × Fin 7 => (dutyTok ER (dutyBar p).1 (dutyBar p).2.1 (dutyBar p).2.2 : sProp 𝕄)) = bigSep Finset.univ payFirst := by
    rw [bigSep_univ_prod]
    exact bigSep_congr fun c _ => SL_univ _
  have e2 : bigSep Finset.univ (fun p : Dev nD × Fin 4 × Fin 7 × Fin 4 => (dutyTok ER (dutyAt p).1 (dutyAt p).2.1 (dutyAt p).2.2 : sProp 𝕄)) = bigSep Finset.univ pays4 := by
    rw [bigSep_univ_prod]
    refine bigSep_congr fun c _ => ?_
    unfold pays4
    rw [bigSep_univ_prod, h4]
    exact congrArg₂ _ (hl c 0) (congrArg₂ _ (hl c 1) (congrArg₂ _ (hl c 2) (hl c 3)))
  rw [bigSep_union duties_disj, BI.bigSep_map, BI.bigSep_map, bigSep_sep']
  exact congrArg₂ _ e1 e2

/-- The launch element, dealt. -/
theorem fund_all : BI.own (ER (initOf allCells allDuties)) ⊢ (|==> bigSep Finset.univ (deal I) : sProp 𝕄) := by
  iintro HX
  imod (Rounds.fund ER (Rd I) allCells allDuties) $$ HX with ⟨Hst, Hr, Hat, Htok⟩
  imodintro
  ihave Hst := (Entails.of_eq (all_cells fun g => roundState ER (Rd I) g 0)) $$ Hst
  ihave Hat := (Entails.of_eq (all_cells fun g => atPos (ER (F := F)) g 0 ∅ 0)) $$ Hat
  ihave Hr := (Entails.of_eq (all_cells fun g => reached (ER (F := F)) g 0)) $$ Hr
  ihave Htok := (Entails.of_eq (all_duties (F := F))) $$ Htok
  unfold deal
  simp only [bigSep_sep']
  isplitl [Hst]; · iexact Hst
  isplitl [Hat]; · iexact Hat
  isplitl [Hr]; · iexact Hr
  iexact Htok

/-! ## The cells made to run -/

/-- The kernel's own semaphores. -/
abbrev osem (p : Fin 4 × Dev nD) : SemLoc sig := .dma (qs p.1 p.2)
theorem ownSemFacts : Pipeline.OwnSemFacts cfg0.spec osem := by decide +kernel

omit [FloatOps F] in
/-- The barrier semaphore is the launch's one unscoped semaphore. -/
theorem unscopedSems_eq : (unscopedSems0 c : sProp 𝕄) = semVal (barCell c) 0 := by
  unfold unscopedSems0; rw [bigSep_eq_bigSepL_of_eq [SemLoc.reg barS] (by decide) (by decide)]; rfl

theorem run_cell (g : GSem nD τ sig) : iprop(semVal g 0 ∗ roundState ER (Rd I) g 0) ⊢ iprop(|={Set.univ}=> inv I g) := by
  unfold inv
  exact (Rounds.body_intro ER (Rd I) g).trans inv_alloc

/-- What device `c` knows of its own cells. -/
def knows : sProp 𝕄 := atCells c (known I)
/-- What stays with device `c`: its positions, the duties it pays. -/
def stays : sProp 𝕄 := iprop(atCells c (fun g => atPos (ER (F := F)) g 0 ∅ 0) ∗ payFirst c ∗ pays4 c)

theorem alloc_dev : iprop(Pipeline.ownSems0 (Ix := ℕ) (Name := ℕ) (U := UU) (Lvl := ℕ) (Val := Elt F) (τ := τ) osem c ∗ unscopedSems0 c ∗ deal I c)
    ⊢ iprop(|={Set.univ}=> (knows I c ∗ stays c)) := by
  rw [unscopedSems_eq]
  unfold Pipeline.ownSems0 deal knows stays atCells
  iintro ⟨Hos, Hus, ⟨Hsb, Hsc⟩, Hat, ⟨Hrb, Hrc⟩, Htok⟩
  imod (run_cell I (barCell c)) $$ [Hus Hsb] with Hb
  · isplitl [Hus] <;> iassumption
  imod (show iprop((bigSep Finset.univ fun p : Fin 4 × Dev nD => semVal (cell p.1 c p.2) 0) ∗ bigSep Finset.univ fun p : Fin 4 × Dev nD => roundState ER (Rd I) (cell p.1 c p.2) 0)
      ⊢ (|={Set.univ}=> bigSep Finset.univ fun p : Fin 4 × Dev nD => inv I (cell p.1 c p.2) : sProp 𝕄) from by
        rw [← bigSep_sep']
        exact (BI.bigSep_mono fun p _ => run_cell I (cell p.1 c p.2)).trans (bigSep_fupd _ _)) $$ [Hos Hsc] with Hc
  · isplitl [Hos] <;> iassumption
  imodintro
  isplitl [Hb Hrb Hc Hrc]
  · unfold known
    rw [bigSep_sep']
    isplitl [Hb Hrb]
    · isplitl [Hb] <;> iassumption
    · isplitl [Hc] <;> iassumption
  isplitl [Hat] <;> iassumption

/-- What everyone knows of all cells. -/
def knowAll : sProp 𝕄 :=
  iprop(bigSep Finset.univ (fun c : Dev nD => known I (barCell c)) ∗ bigSep Finset.univ (fun p : Dev nD × Fin 4 × Dev nD => known I (cell p.2.1 p.1 p.2.2)))
instance : BI.Persistent (knowAll I) := by unfold knowAll; infer_instance

omit [FloatOps F] in
theorem with_all {R : sProp 𝕄} [BI.Persistent R] (Φ : Dev nD → sProp 𝕄) : iprop(R ∗ bigSep Finset.univ Φ) ⊢ bigSep Finset.univ fun c => iprop(R ∗ Φ c) := by
  rw [bigSep_sep']
  exact sep_mono_left (BI.bigSep_of_persistent _ R)

theorem glob_all : (bigSep Finset.univ fun c => iprop(Pipeline.ownSems0 (Ix := ℕ) (Name := ℕ) (U := UU) (Lvl := ℕ) (Val := Elt F) (τ := τ) osem c ∗ unscopedSems0 c ∗ deal I c) : sProp 𝕄)
    ⊢ |={Set.univ}=> bigSep Finset.univ fun c => iprop(knowAll I ∗ stays c) := by
  have e : bigSep Finset.univ (knows I) = knowAll I := by
    unfold knows atCells knowAll
    rw [bigSep_sep', bigSep_univ_prod (fun p : Dev nD × Fin 4 × Dev nD => known I (cell p.2.1 p.1 p.2.2))]
  have h : (bigSep Finset.univ fun c => iprop(knows I c ∗ stays c) : sProp 𝕄) ⊢ bigSep Finset.univ fun c => iprop(knowAll I ∗ stays c) := by
    rw [bigSep_sep', e]
    exact with_all _
  exact ((BI.bigSep_mono fun c _ => alloc_dev I c).trans (bigSep_fupd _ _)).trans (BI.fupd_mono h)

end Gets

end Cert.Steps

end
-- ==== Proof.Credit.lean ====
/-
The credit the launch gives each device for what the others owe it.
-/
module

public import proofs.«01_k».proof.Proof.Whole

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-! ## The launch credit of a list of payments -/

omit [FloatOps F] in
theorem owedL_append (a b : List Pay) : owedL (a ++ b) = owedL b + owedL a := by
  induction a with
  | nil => exact (add_zero _).symm
  | cons p a ih =>
    show owedL (a ++ b) + tallyAt p.1 p.2.1 p.2.2 = owedL b + (owedL a + tallyAt p.1 p.2.1 p.2.2)
    rw [ih, add_assoc]

omit [FloatOps F] in
theorem launch_append (a b : Dev nD → List Pay) (c : Dev nD) :
    (Pipeline.launchCred (fun d => owedL (a d ++ b d)) c : sProp 𝕄) = iprop(Pipeline.launchCred (fun d => owedL (b d)) c ∗ Pipeline.launchCred (fun d => owedL (a d)) c) := by
  rw [← Pipeline.launchCred_add]
  exact congrArg (fun O => Pipeline.launchCred O c) (funext fun d => owedL_append (a d) (b d))

omit [FloatOps F] in
/-- Each device paying cell `g` of its peer at every distance, a device gets the payments of its own cells. -/
theorem launch_map (ls : List (Fin 7)) (pay : Dev nD → Fin 7 → Pay) (T : Fin 7 → Dev nD → CellTallies nD τ sig ℕ)
    (hp : ∀ r c, tallyAt (pay (peer c r.rev) r).1 (pay (peer c r.rev) r).2.1 (pay (peer c r.rev) r).2.2 = T r c)
    (hT : ∀ r c g, T r c g ≠ 0 → g.1 = (c : Thread nD τ)) (c : Dev nD) :
    (Pipeline.launchCred (fun d => owedL (ls.map (pay d))) c : sProp 𝕄) = SL ls fun r => cred (T r c) := by
  induction ls with
  | nil => exact Pipeline.launchCred_zero c
  | cons r ls ih =>
    rw [SL_cons, ← ih]
    have h : (Pipeline.launchCred (fun d => tallyAt (pay d r).1 (pay d r).2.1 (pay d r).2.2) c : sProp 𝕄) = cred (T r c) := by
      refine Pipeline.launchCred_of_sum _ (T r) ?_ (hT r) c
      refine (Fintype.sum_equiv ⟨fun d => peer d r.rev, fun d => peer d r, fun d => peer_rev' d r, fun d => peer_rev d r⟩ _ _ fun d => ?_).symm
      exact (hp r d).symm
    rw [← h]
    refine (Pipeline.launchCred_add (fun d => owedL (ls.map (pay d))) (fun d => tallyAt (pay d r).1 (pay d r).2.1 (pay d r).2.2) c).trans ?_
    exact Entails.antisymm (sep_comm (PROP := sProp 𝕄)).1 (sep_comm (PROP := sProp 𝕄)).1

omit [FloatOps F] in
theorem tally_cell {g g' : GSem nD τ sig} {i n : ℕ} (h : (tallyAt g i n : CellTallies nD τ sig ℕ) g' ≠ 0) : g' = g := by
  by_contra hne
  exact h (tallyAt_ne_cell hne i n)

omit [FloatOps F] in
theorem launch_ag (l : ℕ) (c : Dev nD) : (Pipeline.launchCred (fun d => owedL (up.map (payAg d l))) c : sProp 𝕄) = SL up fun r => cr c r 1 l := by
  rw [launch_map up (fun d => payAg d l) (fun r c => tallyAt (cell 1 c (peer c r.rev)) l N) (fun r c => by dsimp only [payAg]; rw [peer_rev'])
    (fun r c g h => congrArg Prod.fst (tally_cell h))]
  exact (SL_map Fin.rev up fun r => cr (F := F) c r 1 l).symm.trans (SL_dn _)
omit [FloatOps F] in
theorem launch_rs (l : ℕ) (c : Dev nD) : (Pipeline.launchCred (fun d => owedL (dn.map (payRs d l))) c : sProp 𝕄) = SL up fun r => cr c r 3 l := by
  rw [launch_map dn (fun d => payRs d l) (fun r c => tallyAt (cell 3 c (peer c r.rev)) l N) (fun r c => by dsimp only [payRs]; rw [peer_rev'])
    (fun r c g h => congrArg Prod.fst (tally_cell h))]
  exact (SL_map Fin.rev dn fun r => cr (F := F) c r 3 l).symm

omit [FloatOps F] in
theorem cred_units (c : Dev nD) (ls : List (Fin 7)) (h : ls ≠ []) :
    (SL ls (fun _ => cred (tallyAt (barCell c) 0 1)) : sProp 𝕄) ⊢ cred (tallyAt (barCell c) 0 ls.length) := by
  induction ls with
  | nil => exact absurd rfl h
  | cons r ls ih =>
    rw [SL_cons]
    cases ls with
    | nil =>
      iintro ⟨H, -⟩
      iexact H
    | cons r' ls =>
      refine (BIClass.sep_mono (BI.Entails.refl _) (ih (List.cons_ne_nil _ _))).trans ?_
      refine (cred_add _ _).2.trans (Entails.of_eq (congrArg cred ?_))
      exact (tallyAt_add _ _ _ _).trans (congrArg (tallyAt (barCell c) 0) (Nat.add_comm 1 _))

omit [FloatOps F] in
theorem launch_bar (c : Dev nD) : (Pipeline.launchCred (fun d => owedL (up.map (payBar d))) c : sProp 𝕄) ⊢ cred (tallyAt (barCell c) 0 7) := by
  rw [launch_map up payBar (fun r c => tallyAt (barCell c) 0 1) (fun r c => by dsimp only [payBar]; rw [peer_rev'])
    (fun r c g h => congrArg Prod.fst (tally_cell h))]
  exact cred_units c up (List.cons_ne_nil _ _)

/-- A device's credit at launch. -/
def credits (c : Dev nD) : sProp 𝕄 :=
  iprop(cred (tallyAt (barCell c) 0 7) ∗ (SL up (fun r => cr (F := F) c r 1 0) ∗ SL up (fun r => cr c r 3 0)) ∗ (SL up (fun r => cr c r 1 1) ∗ SL up (fun r => cr c r 3 1))
    ∗ (SL up (fun r => cr c r 1 2) ∗ SL up (fun r => cr c r 3 2)) ∗ SL up (fun r => cr c r 1 3))

omit [FloatOps F] in
theorem credits_intro (c : Dev nD) : (Pipeline.launchCred (fun d => owedL (payAll d)) c : sProp 𝕄) ⊢ credits c := by
  have hL : ∀ l : ℕ, (Pipeline.launchCred (fun d => owedL (payL d l)) c : sProp 𝕄) = iprop(SL up (fun r => cr c r 3 l) ∗ SL up (fun r => cr c r 1 l)) := fun l => by
    unfold payL
    rw [launch_append (fun d => up.map (payAg d l)) (fun d => dn.map (payRs d l)), launch_ag, launch_rs]
  have e : (fun d : Dev nD => owedL (payAll d)) = fun d => owedL (up.map (payBar d) ++ (payL d 0 ++ (payL d 1 ++ (payL d 2 ++ up.map (payAg d 3))))) := rfl
  rw [e, launch_append (fun d => up.map (payBar d)) (fun d => payL d 0 ++ (payL d 1 ++ (payL d 2 ++ up.map (payAg d 3)))),
    launch_append (fun d => payL d 0) (fun d => payL d 1 ++ (payL d 2 ++ up.map (payAg d 3))), launch_append (fun d => payL d 1) (fun d => payL d 2 ++ up.map (payAg d 3)),
    launch_append (fun d => payL d 2) (fun d => up.map (payAg d 3)), hL, hL, hL, launch_ag]
  unfold credits
  iintro ⟨⟨⟨⟨H3, H2r, H2⟩, H1r, H1⟩, H0r, H0⟩, HB⟩
  ihave HB := (launch_bar (F := F) c) $$ HB
  isplitl [HB]; · iexact HB
  isplitl [H0 H0r]
  · isplitl [H0] <;> iassumption
  isplitl [H1 H1r]
  · isplitl [H1] <;> iassumption
  isplitl [H2 H2r]
  · isplitl [H2] <;> iassumption
  iexact H3

end Cert.Steps

end
-- ==== Proof.Point.lean ====
/-
The one grid point: the launch's arrays as the schedule's inputs, the pipeline's data, and the body's triple.
-/
module

public import proofs.«01_k».proof.Proof.Ends
public import proofs.«01_k».proof.Proof.Fund
public import proofs.«01_k».proof.Proof.Credit
public import proofs.«01_k».proof.Proof.Gen.KernelIdeal.Launch
public import proofs.«01_k».proof.Proof.Gen.KernelIdeal.Points

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

open Idealize.ShloMosaic.Pipeline (Dat Cfg Window BodyObligation cellOf)

variable (m : (ℓ : Loc nD τ sig) → Buf (Elt F) ℓ) (ρ : Dev nD → PrngReg)

/-! ## The arrays at launch -/

abbrev s₀ : MemSt nD τ sig (Elt F) := ⟨m, fun _ => 0, ρ⟩

/-- What the staging of the input blocks and of the weights finds. -/
def in0 (c : Dev nD) : (cc0_stg0_0 : Ref sig .tc).ty.Contents (Elt F) := (win0_0.blk (0 : Fin 1)).view.read (Elt F) (m ((c : Thread nD τ).loc main_arg0))
def in1 (c : Dev nD) : (cc0_stg1_0 : Ref sig .tc).ty.Contents (Elt F) := (win0_1.blk (0 : Fin 1)).view.read (Elt F) (m ((c : Thread nD τ).loc main_arg1))
def in2 (c : Dev nD) : (cc0_stg2_0 : Ref sig .tc).ty.Contents (Elt F) := (win0_2.blk (0 : Fin 1)).view.read (Elt F) (m ((c : Thread nD τ).loc main_arg4))
def in3 (c : Dev nD) : (cc0_stg3_0 : Ref sig .tc).ty.Contents (Elt F) := (win0_3.blk (0 : Fin 1)).view.read (Elt F) (m ((c : Thread nD τ).loc main_arg2))
def in4 (c : Dev nD) : (cc0_stg4_0 : Ref sig .tc).ty.Contents (Elt F) := (win0_4.blk (0 : Fin 1)).view.read (Elt F) (m ((c : Thread nD τ).loc main_arg5))
def in5 (c : Dev nD) : (cc0_stg5_0 : Ref sig .tc).ty.Contents (Elt F) := (win0_5.blk (0 : Fin 1)).view.read (Elt F) (m ((c : Thread nD τ).loc main_arg3))
def in6 (c : Dev nD) : (cc0_stg6_0 : Ref sig .tc).ty.Contents (Elt F) := (win0_6.blk (0 : Fin 1)).view.read (Elt F) (m ((c : Thread nD τ).loc main_arg6))

/-- The inputs of the schedule, from the launch's memory. -/
def insOf : Ins F where
  x c := in0 m c
  wi l c := match l with
    | 0 => in1 m c
    | 1 => in3 m c
    | _ => in5 m c
  wo l c := match l with
    | 0 => in2 m c
    | 1 => in4 m c
    | _ => in6 m c

/-! ## Loads of the staged buffers -/

omit [FloatOps F] in
/-- The zero offset. -/
theorem hz : (![0, 0] : Fin 2 → Nat) = fun _ => 0 := funext fun a => by fin_cases a <;> rfl

abbrev full (c : Dev nD) (b : Ref sig .tc) (f : Buf (Elt F) ((c : Thread nD τ).loc b)) : sProp 𝕄 := ((c : Thread nD τ).loc b) ↦{fullShare} f

/-- The rule of a whole staged buffer's load. -/
theorem load_full (c : Dev nD) {s : Shape} {e : EltTy} (w : Memref sig .tc .vmem s e) (r : LoadRect s) (h : w.view.LoadsAt r)
    (X : Buf (Elt F) (w.view.loc (c : Thread nD τ))) (v : Vec F r.shape e) (hr : w.view.readAt (Elt F) r X = v) (K : Vec F r.shape e → sProp 𝕄) :
    ((w.view.loc (c : Thread nD τ)) ↦{fullShare} X) ⊢ iprop((((w.view.loc (c : Thread nD τ)) ↦{fullShare} X) -∗ K v) -∗ runs c (Prog.lift (.load w r h)) K) := by
  subst hr
  unfold runs
  iintro H Hk
  iapply (wp_load 𝒱₀ (c : Thread nD τ) none Set.univ (m := w) (f := X) (Finset.subset_univ _)) $$ H
  iintro H
  rw [wp_ret]
  imodintro
  iapply Hk $$ H

/-- The staged inputs are what the loads of the program read: the activations, the first weights, the second weights. -/
theorem holds0 (c : Dev nD) (X : FVec F S64x512 .bf16) : Holds0 c (full c cc0_stg0_0 X) X :=
  ⟨X, shapeCast_self _ _, fun K => load_full (s := S64x512) (e := .bf16) c (Memref.whole cc0_stg0_0) (Rect.unit (s := S64x512) ![0, 0] S64x512.size inb_S64x512_S64x512_0_0).toLoadRect (View.loadsAt_vmem h_S64x512) X X (Memref.readAt_unit_zero (Elt F) cc0_stg0_0 hz _ X) K⟩
theorem holds1 (c : Dev nD) (X : FVec F S512x1024 .bf16) : Holds1 c (full c cc0_stg1_0 X) (Memref.whole cc0_stg1_0) X :=
  ⟨X, shapeCast_self _ _, fun K => load_full (s := S512x1024) (e := .bf16) c (Memref.whole cc0_stg1_0) (Rect.unit (s := S512x1024) ![0, 0] S512x1024.size inb_S512x1024_S512x1024_0_0).toLoadRect (View.loadsAt_vmem h_S512x1024) X X (Memref.readAt_unit_zero (Elt F) cc0_stg1_0 hz _ X) K⟩
theorem holds3 (c : Dev nD) (X : FVec F S512x1024 .bf16) : Holds1 c (full c cc0_stg3_0 X) (Memref.whole cc0_stg3_0) X :=
  ⟨X, shapeCast_self _ _, fun K => load_full (s := S512x1024) (e := .bf16) c (Memref.whole cc0_stg3_0) (Rect.unit (s := S512x1024) ![0, 0] S512x1024.size inb_S512x1024_S512x1024_0_0).toLoadRect (View.loadsAt_vmem h_S512x1024) X X (Memref.readAt_unit_zero (Elt F) cc0_stg3_0 hz _ X) K⟩
theorem holds5 (c : Dev nD) (X : FVec F S512x1024 .bf16) : Holds1 c (full c cc0_stg5_0 X) (Memref.whole cc0_stg5_0) X :=
  ⟨X, shapeCast_self _ _, fun K => load_full (s := S512x1024) (e := .bf16) c (Memref.whole cc0_stg5_0) (Rect.unit (s := S512x1024) ![0, 0] S512x1024.size inb_S512x1024_S512x1024_0_0).toLoadRect (View.loadsAt_vmem h_S512x1024) X X (Memref.readAt_unit_zero (Elt F) cc0_stg5_0 hz _ X) K⟩
theorem holds2 (c : Dev nD) (X : FVec F S1024x512 .bf16) : Holds2 c (full c cc0_stg2_0 X) (Memref.whole cc0_stg2_0) X :=
  ⟨X, shapeCast_self _ _, fun K => load_full (s := S1024x512) (e := .bf16) c (Memref.whole cc0_stg2_0) (Rect.unit (s := S1024x512) ![0, 0] S1024x512.size inb_S1024x512_S1024x512_0_0).toLoadRect (View.loadsAt_vmem h_S1024x512) X X (Memref.readAt_unit_zero (Elt F) cc0_stg2_0 hz _ X) K⟩
theorem holds4 (c : Dev nD) (X : FVec F S1024x512 .bf16) : Holds2 c (full c cc0_stg4_0 X) (Memref.whole cc0_stg4_0) X :=
  ⟨X, shapeCast_self _ _, fun K => load_full (s := S1024x512) (e := .bf16) c (Memref.whole cc0_stg4_0) (Rect.unit (s := S1024x512) ![0, 0] S1024x512.size inb_S1024x512_S1024x512_0_0).toLoadRect (View.loadsAt_vmem h_S1024x512) X X (Memref.readAt_unit_zero (Elt F) cc0_stg4_0 hz _ X) K⟩
theorem holds6 (c : Dev nD) (X : FVec F S1024x512 .bf16) : Holds2 c (full c cc0_stg6_0 X) (Memref.whole cc0_stg6_0) X :=
  ⟨X, shapeCast_self _ _, fun K => load_full (s := S1024x512) (e := .bf16) c (Memref.whole cc0_stg6_0) (Rect.unit (s := S1024x512) ![0, 0] S1024x512.size inb_S1024x512_S1024x512_0_0).toLoadRect (View.loadsAt_vmem h_S1024x512) X X (Memref.readAt_unit_zero (Elt F) cc0_stg6_0 hz _ X) K⟩

/-! ## The pipeline's data -/

/-- What a device enters its body with, the buffers aside. -/
def start (c : Dev nD) : sProp 𝕄 := iprop(recs (insOf m) ∗ stays c ∗ credits c)
/-- Before the body, and after it. -/
def Φ₀ (c : Dev nD) : sProp 𝕄 := iprop(start m c ∗ bufs c)
def Φ₁ (c : Dev nD) : sProp 𝕄 :=
  iprop(bufs c ∗ semVal (barCell c) 0 ∗ bigSep Finset.univ fun p : Fin 4 × Dev nD => semVal (cell p.1 c p.2) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => in5 m c
    | ⟨6, _⟩ => in6 m c
    | ⟨7, _⟩ => outOf (insOf m) c
  Φ t := match t with
    | ⟨0, _⟩ => Φ₀ m c
    | ⟨_ + 1, _⟩ => Φ₁ c
  q _ := fullShare
  owed t := match t with
    | ⟨0, _⟩ => owedL (payAll c)
    | ⟨_ + 1, _⟩ => 0

/-! ## The body -/

/-- The launch's positions and credits are what the program begins with, and the positions of the device's own cells. -/
theorem begins_of (c : Dev nD) : (iprop(stays c ∗ credits c) : sProp 𝕄) ⊢ iprop(begins c ∗ posOwn c) := by
  unfold stays credits atCells payFirst pays4 payRound begins posOwn pos4 toks toksR ps
  rw [cells_split c fun a t => atPos (ER (F := F)) (cell a c t) 0 ∅ 0]
  iintro ⟨⟨⟨Hb, ⟨O0, P0⟩, ⟨O1, P1⟩, ⟨O2, P2⟩, O3, P3⟩, Hf, ⟨A0, R0⟩, ⟨A1, R1⟩, ⟨A2, R2⟩, A3, -⟩, Cb, ⟨CA0, CR0⟩, ⟨CA1, CR1⟩, ⟨CA2, CR2⟩, CA3⟩
  isplitr [O0 O1 O2 O3]
  rotate_left
  · isplitl [O0]; · iexact O0
    isplitl [O1]; · iexact O1
    isplitl [O2] <;> iassumption
  isplitl [Hb Hf Cb]
  · isplitl [Hf]; · iexact Hf
    isplitl [Cb] <;> iassumption
  isplitl [P0 P1 P2 P3]
  · isplitl [P0]; · iexact P0
    isplitl [P1]; · iexact P1
    isplitl [P2] <;> iassumption
  isplitl [A0 R0 CA0 CR0]
  · isplitl [A0 CA0]
    · isplitl [A0] <;> iassumption
    isplitl [R0] <;> iassumption
  isplitl [A1 R1 CA1 CR1]
  · isplitl [A1 CA1]
    · isplitl [A1] <;> iassumption
    isplitl [R1] <;> iassumption
  isplitl [A2 R2 CA2 CR2]
  · isplitl [A2 CA2]
    · isplitl [A2] <;> iassumption
    isplitl [R2] <;> iassumption
  isplitl [A3] <;> iassumption

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- A staging buffer owned at given contents, as a points-to. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

omit [FloatOps F] in
/-- A staging buffer at given contents. -/
theorem stg_intro (c : Dev nD) (b : Ref sig .tc) (X : b.ty.Contents (Elt F)) : full c b X ⊢ (stg c b X : sProp 𝕄) := by
  iintro H
  iexists X
  isplitr; · ipureintro; rfl
  iexact H

def bodyPre (c : Dev nD) : sProp 𝕄 :=
  iprop(Φ₀ m c ∗ (dats m ρ 0 c).owesAt (0 : ℕ) t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

def bodyPost (c : Dev nD) : sProp 𝕄 :=
  iprop(Φ₁ c ∗ (dats m ρ 0 c).owesAt (0 : ℕ) t0_0.succ ∗ stg c cc0_stg0_0 (in0 m c) ∗ stg c cc0_stg1_0 (in1 m c) ∗ stg c cc0_stg2_0 (in2 m c) ∗ stg c cc0_stg3_0 (in3 m c) ∗ stg c cc0_stg4_0 (in4 m c) ∗ stg c cc0_stg5_0 (in5 m c) ∗ stg c cc0_stg6_0 (in6 m c) ∗ stg c cc0_stg7_0 (outOf (insOf m) c))

/-- The seven staged inputs, as the program's rule takes them. -/
abbrev staged (c : Dev nD) : sProp 𝕄 :=
  iprop(full c cc0_stg0_0 (in0 m c) ∗ (full c cc0_stg1_0 (in1 m c) ∗ full c cc0_stg2_0 (in2 m c)) ∗ (full c cc0_stg3_0 (in3 m c) ∗ full c cc0_stg4_0 (in4 m c)) ∗ (full c cc0_stg5_0 (in5 m c) ∗ full c cc0_stg6_0 (in6 m c)))

/-- The whole body, the pipeline's bookkeeping aside. -/
theorem runs_core (c : Dev nD) (f : S512x512.Idx → Elt F .f32) (K : PUnit → sProp 𝕄) :
    iprop(Φ₀ m c ∗ staged m c ∗ full c cc0_stg7_0 f ∗ ow c (payAll c))
      ⊢ iprop(((Φ₁ c ∗ staged m c ∗ full c cc0_stg7_0 (outOf (insOf m) c) ∗ ow c []) -∗ K ⟨⟩) -∗ runs c (prog c) K) := by
  have hp := runs_prog (insOf m) c f _ _ _ _ _ _ _ (holds0 c (in0 m c)) (holds1 c (in1 m c)) (holds2 c (in2 m c)) (holds3 c (in3 m c)) (holds4 c (in4 m c))
    (holds5 c (in5 m c)) (holds6 c (in6 m c)) (fun u => iprop(|={Set.univ}=> K u))
  have hf : runs c (prog c) (fun u => iprop(|={Set.univ}=> K u)) ⊢ runs c (prog c) K := by
    unfold runs; exact wp_fupd _ _ _ _ _
  unfold Φ₀ start full
  rw [outs_eq c f, outs_eq c (outOf (insOf m) c)]
  iintro ⟨⟨⟨#HR, Hs⟩, Hb⟩, Hst, Ho, Hw⟩ Hk
  ihave Hs := (begins_of c) $$ Hs
  icases Hs with ⟨Hbeg, Hown⟩
  ihave Hb := (bufs_out c) $$ Hb
  icases Hb with ⟨Hb, Hr⟩
  iapply hf
  iapply hp $$ [Hbeg Hb Hst Ho Hw]
  · isplitr; · iexact HR
    isplitl [Hbeg]; · iexact Hbeg
    isplitl [Hb]; · iexact Hb
    isplitl [Hst]; · iexact Hst
    isplitl [Ho] <;> iassumption
  iintro ⟨Hw, Hpos, Hb, Hst, Ho⟩
  imod (close_all (insOf m) c) $$ [Hpos Hown] with Hz
  · isplitr; · iexact HR
    isplitl [Hpos] <;> iassumption
  ihave Hb := (bufs_in (insOf m) c) $$ [Hb Hr]
  · isplitl [Hb] <;> iassumption
  imodintro
  iapply Hk
  unfold Φ₁
  isplitl [Hb Hz]
  · isplitl [Hb] <;> iassumption
  isplitl [Hst]; · iexact Hst
  isplitl [Ho] <;> iassumption

/-- The body of the one grid point, from the staged inputs to the computed result. -/
theorem sound_body (c : Dev nD) : bodyPre m ρ c ⊢ runs c (bodyAt0 t0_0) fun _ => bodyPost m ρ c := by
  rw [body_eq]
  have hd : ∀ Q : PUnit → sProp 𝕄, runs c (Prog.op .deviceId prog) Q = runs c (prog c) Q := fun Q => by unfold runs; rw [wp_deviceId]
  rw [hd]
  unfold bodyPre
  iintro ⟨Hphi, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩⟩
  obtain rfl : g0 = in0 m c := by rw [hg0]; unfold Dat.before; rw [if_pos (fetch0_0 t0_0)]; rfl
  obtain rfl : g1 = in1 m c := by rw [hg1]; unfold Dat.before; rw [if_pos (fetch0_1 t0_0)]; rfl
  obtain rfl : g2 = in2 m c := by rw [hg2]; unfold Dat.before; rw [if_pos (fetch0_2 t0_0)]; rfl
  obtain rfl : g3 = in3 m c := by rw [hg3]; unfold Dat.before; rw [if_pos (fetch0_3 t0_0)]; rfl
  obtain rfl : g4 = in4 m c := by rw [hg4]; unfold Dat.before; rw [if_pos (fetch0_4 t0_0)]; rfl
  obtain rfl : g5 = in5 m c := by rw [hg5]; unfold Dat.before; rw [if_pos (fetch0_5 t0_0)]; rfl
  obtain rfl : g6 = in6 m c := by rw [hg6]; unfold Dat.before; rw [if_pos (fetch0_6 t0_0)]; rfl
  unfold Dat.owesAt Pipeline.owesWithin
  icases Ho with ⟨%W, %hW, HO⟩
  have hc := runs_core m c g7 (fun _ => bodyPost m ρ c)
  iapply hc $$ [Hphi HO H0 H1 H2 H3 H4 H5 H6 H7]
  · isplitl [Hphi]; · iexact Hphi
    isplitl [H0 H1 H2 H3 H4 H5 H6]
    · unfold staged
      isplitl [H0]; · iexact H0
      isplitl [H1 H2]
      · isplitl [H1] <;> iassumption
      isplitl [H3 H4]
      · isplitl [H3] <;> iassumption
      isplitl [H5] <;> iassumption
    isplitl [H7]; · iexact H7
    unfold ow
    iexists W
    iexact HO
  iintro ⟨Hphi, ⟨H0, ⟨H1, H2⟩, ⟨H3, H4⟩, H5, H6⟩, H7, HO⟩
  unfold bodyPost
  isplitl [Hphi]; · iexact Hphi
  isplitl [HO]
  · unfold Dat.owesAt Pipeline.owesWithin ow
    icases HO with ⟨%W', HO⟩
    iexists W'
    isplitr; · ipureintro; exact fun _ _ => Or.inl trivial
    iexact HO
  isplitl [H0]; · iapply (stg_intro c cc0_stg0_0) $$ H0
  isplitl [H1]; · iapply (stg_intro c cc0_stg1_0) $$ H1
  isplitl [H2]; · iapply (stg_intro c cc0_stg2_0) $$ H2
  isplitl [H3]; · iapply (stg_intro c cc0_stg3_0) $$ H3
  isplitl [H4]; · iapply (stg_intro c cc0_stg4_0) $$ H4
  isplitl [H5]; · iapply (stg_intro c cc0_stg5_0) $$ H5
  isplitl [H6]; · iapply (stg_intro c cc0_stg6_0) $$ H6
  iapply (stg_intro c cc0_stg7_0) $$ H7

/-- What the pipeline asks of the body. -/
theorem body_obligation (c : Dev nD) : BodyObligation (dats m ρ 0 c) (defs₀ (F := F)) 𝒱₀ (0 : ℕ) Set.univ := fun t => by
  rw [fin_N0 t]
  rw [bigSep_W0, bigSep_W0]
  simp only [owns_whole_eq]
  show bodyPre m ρ c ⊢ wp frame (wpE (defs₀ (F := F)) 𝒱₀ c none) Set.univ (bodyAt0 t0_0) (fun _ => bodyPost m ρ c)
  exact sound_body m ρ c

end Cert.Steps

end
-- ==== Proof.Run.lean ====
/-
The launch of the kernel on the eight devices.
-/
module

public import proofs.«01_k».proof.Proof.Point
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

open Idealize.ShloMosaic.Pipeline (Dat Cfg Window BodyObligation cellOf)

variable (m : (ℓ : Loc nD τ sig) → Buf (Elt F) ℓ) (ρ : Dev nD → PrngReg)

/-- Every array is held whole. -/
theorem share_eq (c : Dev nD) (w : Fin cfg0.W) : (dats m ρ 0 c).share w = fullShare := by
  unfold Dat.share; split <;> rfl

/-- The launch's ghost state: the pipeline's cells and the kernel's. -/
def u₀ : UU := (initOf (Pipeline.cells cfgs cellOf_inj) (Pipeline.launchToks cfgs cellOf_inj), initOf allCells allDuties)

/-- What the launch deals a device once the cells run. -/
def G' (c : Dev nD) : sProp 𝕄 := iprop(knowAll (insOf m) ∗ stays c)

/-- A device's start, from what the launch deals it. -/
theorem start_intro (c : Dev nD) :
    iprop(Pipeline.unscopedRestP Pipeline.Prefetch.none cfg0.spec c (fun b => m ((c : Thread nD τ).loc b)) ∗ levAts L lv
        ∗ Pipeline.launchCred (fun d => owedL (payAll d)) c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G' recs knowAll
  icases HG with ⟨HK, HS⟩
  isplitl
  · isplitl [Hlev HK]
    · isplitl [Hlev]; · iexact Hlev
      iexact HK
    isplitl [HS] <;> iassumption
  · iempintro

/-- The start with the scratch buffers is what holds before the body, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs] <;> iassumption

/-- and what holds after it gives the scratch buffers and every counter at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems_eq]
  unfold Φ₁ bufs Pipeline.ownSems0
  iintro ⟨Hr, Hb, Hz⟩
  isplitl [Hb]; · iexact Hb
  isplitl [Hz]; · iexact Hz
  iexact Hr

/-- The pipeline's own waits are below everything a device owes. -/
theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    have hl : ∀ (w : Fin 8) (s), lv ((c : Thread nD τ), .dma ((cfg0.win w).sem s)) 0 ≤ 0 := by
      intro w s; fin_cases w <;> fin_cases s <;> exact le_refl 0
    rcases t with ⟨_ | _, ht⟩
    · exact mayWait c _ 0 0 (payAll c) (by decide) (hl w s) (above_payAll c)
    · exact mayWait c _ 0 0 [] (by decide) (hl w s) (fun _ h => nomatch h)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every execution of the kernel on the eight devices ends, each device's arrays at
    the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owedL (payAll c)) (howed₀ := fun _ => rfl) (howedN := fun _ => rfl)
    (L := L) (lv := lv) (hL := L_of_ne) (hwaits := waits m ρ)
    (G := deal (insOf m)) (G' := G' m) (u₀ := u₀)
    (hu₀ := by
      unfold u₀
      iintro Hu
      ihave H := (ownU_pair _ _) $$ Hu
      icases H with ⟨HP, HX⟩
      imod (fund_all (insOf m)) $$ HX with HG
      imodintro
      isplitl [HP] <;> iassumption)
    (hglob := glob_all (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Steps

end
-- ==== Proof.Frames.lean ====
/-
The frames of the kernel, at both readings of its floats.
-/
module

public import proofs.«01_k».proof.Defs
public import proofs.«01_k».proof.Proof.Run
public import proofs.«01_k».proof.Proof.Gen.Kernel

@[expose] public section

set_option maxRecDepth 16384

noncomputable section

namespace Cert.Steps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- An array no result is written to ends as it began. -/
theorem finalA_in (c : Dev nD) (w : Fin 8) (h : (cfg0.win w).isOut = false) : finalA m ρ c w = m ((cfg0.win w).arr.view.loc (c : Thread nD τ)) :=
  (dats m ρ 0 c).arrAt_in w h _

/-- The arguments of a final state are those at launch. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  ⟨(h c 0).trans (finalA_in m ρ c 0 rfl), (h c 1).trans (finalA_in m ρ c 1 rfl), (h c 3).trans (finalA_in m ρ c 3 rfl),
    (h c 5).trans (finalA_in m ρ c 5 rfl), (h c 2).trans (finalA_in m ρ c 2 rfl), (h c 4).trans (finalA_in m ρ c 4 rfl),
    (h c 6).trans (finalA_in m ρ c 6 rfl)⟩

/-- Every run ends, its arguments kept and its counters at zero. -/
theorem run_kept : θ_run defs (onTc (τ := τ) (main (F := F))) (s₀ m ρ) (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun _ h => ⟨args_kept m ρ h.1, h.2⟩) (run_main m ρ)

end Cert.Steps

namespace Cert.Proof

open Idealize.ShloMosaic Idealize.SL.Sem

/-- The kernel's frame, its floats read exactly. -/
theorem frame_ideal : @Cert.quiescent_KernelIdeal Cert.KernelIdeal.Gen.facts := fun m ρ _ =>
  Cert.Steps.run_kept m ρ

/-- The two programs have the same text: their body tables are equal, -/
theorem defs₀_same : Cert.KernelIdeal.defs₀ (F := Bits) = Cert.Kernel.defs₀ (F := Bits) := by
  refine congrArg (Defs.onTc (nD := Cert.Kernel.nD) (τ := Cert.Kernel.τ) (sig := Cert.Kernel.sig) (Val := Elt Bits) (Λ := Cert.Kernel.Λ₀)) (funext fun ℓ => funext fun a => ?_)
  match ℓ, a with
  | ⟨0, _⟩, (t, s) => rfl

theorem defs_same : Cert.KernelIdeal.defs (F := Bits) = Cert.Kernel.defs (F := Bits) := congrArg (Pipeline.defs Cert.Kernel.pcfgs) defs₀_same

/-- The kernel's frame, its floats read as bits. -/
theorem frame_bits : @Cert.quiescent_Kernel Cert.Kernel.Gen.facts := fun m ρ _ => by
  rw [← defs_same]
  exact Cert.Steps.run_kept (F := Bits) m ρ

end Cert.Proof

end
-- ==== Proof.Mlp.lean ====
/-
One device's share of a layer in exact arithmetic: the rows of a chunk, and the total over the devices.
-/
module

public import proofs.«01_k».proof.Proof.Contents
public import Idealize.ShloMosaic.Lib.Pointwise

@[expose] public section

set_option maxRecDepth 16384

noncomputable section

namespace Cert.Steps

open Cert.KernelIdeal Cert.KernelIdeal.Gen
open Idealize.ShloMosaic Idealize.ShloMosaic.TcCoe

/-- One row block through one device's weights: the product with the first, its positive part, the product with the second. -/
def mlp (wi : FVec Ideal S512x1024 .bf16) (wo : FVec Ideal S1024x512 .bf16) (x : FVec Ideal S64x512 .bf16) (i : Fin 64) (j : Fin 512) : EReal :=
  ∑ k : Fin 1024, max (∑ d : Fin 512, x (ix2 i d) * wi (ix2 d k)) 0 * wo (ix2 k j)

/-- Four row blocks one under the other. -/
def pile (a b c e : FVec Ideal S64x512 .bf16) : FVec Ideal S256x512 .bf16 :=
  concatenate S256x512 0 [⟨S64x512, a⟩, ⟨S64x512, b⟩, ⟨S64x512, c⟩, ⟨S64x512, e⟩] concatenates_S64x512_S64x512_S64x512_S64x512_S256x512_d0

/-- A chunk at a row and a column, from the piled row blocks. -/
theorem chunk_apply (wi : FVec Ideal S512x1024 .bf16) (wo : FVec Ideal S1024x512 .bf16) (a b c e : FVec Ideal S64x512 .bf16)
    (i : Fin 256) (j : Fin 512) : chunk wi wo a b c e (ix2 i j)
      = ∑ k : Fin 1024, max (∑ d : Fin 512, pile a b c e (ix2 i d) * wi (ix2 d k)) 0 * wo (ix2 k j) := by
  unfold chunk
  rw [← pile]
  pointwise

section Rows
variable (wi : FVec Ideal S512x1024 .bf16) (wo : FVec Ideal S1024x512 .bf16) (a b c e : FVec Ideal S64x512 .bf16) (i : Fin 64) (j : Fin 512)

/-- Each of a chunk's four row groups is its row block through the device's weights. -/
theorem row0_chunk : row0 (chunk wi wo a b c e) (ix2 i j) = mlp wi wo a i j := by
  unfold row0 mlp
  pointwise [chunk_apply, pile]

theorem row1_chunk : row1 (chunk wi wo a b c e) (ix2 i j) = mlp wi wo b i j := by
  unfold row1 mlp
  pointwise [chunk_apply, pile]

theorem row2_chunk : row2 (chunk wi wo a b c e) (ix2 i j) = mlp wi wo c i j := by
  unfold row2 mlp
  pointwise [chunk_apply, pile]
  simp only [show ¬ (128 + i.val < 64) from by omega, show ¬ (128 + i.val - 64 < 64) from by omega, show i.val < 64 from i.isLt, show 128 + i.val - 64 - 64 = i.val from by omega, ↓reduceDIte, Fin.eta]

theorem row3_chunk : row3 (chunk wi wo a b c e) (ix2 i j) = mlp wi wo e i j := by
  unfold row3 mlp
  pointwise [chunk_apply, pile]
  simp only [show ¬ (192 + i.val < 64) from by omega, show ¬ (192 + i.val - 64 < 64) from by omega, show ¬ (192 + i.val - 64 - 64 < 64) from by omega, show 192 + i.val - 64 - 64 - 64 = i.val from by omega, ↓reduceDIte, Fin.eta]

end Rows

/-- So every partial is a row block through the device's weights: the block of the device it is sent to. -/
theorem part_apply (wi : FVec Ideal S512x1024 .bf16) (wo : FVec Ideal S1024x512 .bf16) (X : Dev nD → FVec Ideal S64x512 .bf16)
    (s : Dev nD) (r : Fin 7) (i : Fin 64) (j : Fin 512) : part wi wo X s r (ix2 i j) = mlp wi wo (X (peer s r)) i j := by
  match r with
  | 0 => exact row3_chunk ..
  | 1 => exact row2_chunk ..
  | 2 => exact row1_chunk ..
  | 3 => exact row0_chunk ..
  | 4 => exact row3_chunk ..
  | 5 => exact row2_chunk ..
  | 6 => exact row1_chunk ..

/-- The devices are a device and its seven peers. -/
theorem devs_eq (c : Dev nD) : (Finset.univ : Finset (Dev nD)) = insert c (Finset.univ.image (peer c)) := by revert c; decide +kernel
theorem self_not_mem (c : Dev nD) : c ∉ Finset.univ.image (peer c) := by revert c; decide +kernel

/-- A sum over the devices is the own term and the peers'. -/
theorem sum_devs (c : Dev nD) (f : Dev nD → EReal) : ∑ t, f t = f c + ∑ r, f (peer c r) := by
  rw [devs_eq c, Finset.sum_insert (self_not_mem c), Finset.sum_image fun _ _ _ _ h => peer_inj c _ _ h]

/-- The total a device ends a layer with: its block through every device's weights, summed. -/
theorem total_apply (wi : Dev nD → FVec Ideal S512x1024 .bf16) (wo : Dev nD → FVec Ideal S1024x512 .bf16)
    (X : Dev nD → FVec Ideal S64x512 .bf16) (c : Dev nD) (i : Fin 64) (j : Fin 512) :
    total wi wo X c (ix2 i j) = ∑ t, mlp (wi t) (wo t) (X c) i j := by
  rw [sum_devs c, Fin.sum_univ_seven]
  unfold total
  simp only [List.foldl]
  pointwise [accAdd, rnd, wdn, part_apply, peer_rev]
  rw [show row0 (part1 (wi c) (wo c) X c) (ix2 i j) = mlp (wi c) (wo c) (X c) i j from row0_chunk ..]
  ac_rfl

end Cert.Steps

end
-- ==== Proof.Spec.lean ====
/-
The reference's layer in exact arithmetic, and its blocks as the devices' totals.
-/
module

public import proofs.«01_k».proof.Proof.Mlp
public import Idealize.ShloMosaic.Lib.Layout
public import Idealize.ShloMosaic.Lib.Pipeline.ValueKit.Acc
public import proofs.«01_k».proof.Proof.Gen.ReferenceIdeal.Run

@[expose] public section

set_option maxRecDepth 16384

noncomputable section

namespace Cert.Steps

open Cert.KernelIdeal Cert.KernelIdeal.Gen
open Idealize.ShloMosaic Idealize.ShloMosaic.TcCoe

/-- One layer of the reference, on the whole arrays. -/
def refL (W1 : FVec Ideal Cert.ReferenceIdeal.S512x8192 .bf16) (W2 : FVec Ideal Cert.ReferenceIdeal.S8192x512 .bf16) (R : FVec Ideal S512x512 .bf16) : FVec Ideal S512x512 .bf16 :=
  truncf .bf16 (Host.dotGeneral Cert.ReferenceIdeal.dot_S512x8192_S8192x512_S512x512_1_0_0_1_n_n none
    (maximumf (truncf .bf16 (Host.dotGeneral Cert.ReferenceIdeal.dot_S512x512_S512x8192_S512x8192_1_0_0_1_n_n none R W1) bitsLt_bf16_f32)
      (broadcastInDim Cert.ReferenceIdeal.S512x8192 ![] Cert.ReferenceIdeal.Facts₀.bcast_S_S512x8192 (constant Cert.ReferenceIdeal.S_ .bf16 0x0000#16))) W2) bitsLt_bf16_f32

/-- The reference's layer at a row and a column. -/
theorem refL_apply (W1 : FVec Ideal Cert.ReferenceIdeal.S512x8192 .bf16) (W2 : FVec Ideal Cert.ReferenceIdeal.S8192x512 .bf16) (R : FVec Ideal S512x512 .bf16) (i j : Fin 512) :
    refL W1 W2 R (ix2 i j) = ∑ k : Fin 8192, max (∑ d : Fin 512, R (ix2 i d) * W1 (ix2 d k)) 0 * W2 (ix2 k j) := by
  unfold refL
  pointwise

/-- Device `c`'s rows of the activations, columns of a first weight, rows of a second weight. -/
abbrev blkX (R : FVec Ideal S512x512 .bf16) (c : Dev nD) : FVec Ideal S64x512 .bf16 := Layout.block ⟨2, ![64, 512]⟩ ⟨2, ![512, 512]⟩ 0 8 c R
abbrev blkI (W : FVec Ideal Cert.ReferenceIdeal.S512x8192 .bf16) (c : Dev nD) : FVec Ideal S512x1024 .bf16 := Layout.block ⟨2, ![512, 1024]⟩ ⟨2, ![512, 8192]⟩ 1 8 c W
abbrev blkO (W : FVec Ideal Cert.ReferenceIdeal.S8192x512 .bf16) (c : Dev nD) : FVec Ideal S1024x512 .bf16 := Layout.block ⟨2, ![1024, 512]⟩ ⟨2, ![8192, 512]⟩ 0 8 c W

/-- The blocks by rows and columns. -/
theorem blkX_apply (R : FVec Ideal S512x512 .bf16) (c : Dev nD) (i : Fin 64) (j : Fin 512) :
    blkX R c (ix2 i j) = R (ix2 ⟨c.val * 64 + i.val, by have : c.val < 8 := c.isLt; show _ < 512; omega⟩ j) :=
  congrArg R (funext fun a => by fin_cases a <;> rfl)
theorem blkI_apply (W : FVec Ideal Cert.ReferenceIdeal.S512x8192 .bf16) (c : Dev nD) (i : Fin 512) (j : Fin 1024) :
    blkI W c (ix2 i j) = W (ix2 i ⟨c.val * 1024 + j.val, by have : c.val < 8 := c.isLt; show _ < 8192; omega⟩) :=
  congrArg W (funext fun a => by fin_cases a <;> rfl)
theorem blkO_apply (W : FVec Ideal Cert.ReferenceIdeal.S8192x512 .bf16) (c : Dev nD) (i : Fin 1024) (j : Fin 512) :
    blkO W c (ix2 i j) = W (ix2 ⟨c.val * 1024 + i.val, by have : c.val < 8 := c.isLt; show _ < 8192; omega⟩ j) :=
  congrArg W (funext fun a => by fin_cases a <;> rfl)

/-- A sum over the hidden units is the sum over the devices of the sums over their own. -/
theorem sum_hidden (f : Fin 8192 → EReal) :
    ∑ K, f K = ∑ t : Dev nD, ∑ k : Fin 1024, f ⟨t.val * 1024 + k.val, by have : t.val < 8 := t.isLt; show _ < 8192; omega⟩ := by
  have h := Fin.sum_univ_univ_mul_add 8 1024 (fun n => if h : n < 8192 then f ⟨n, h⟩ else 0)
  refine Eq.trans ?_ (h.symm.trans ?_)
  · exact Finset.sum_congr rfl fun K _ => by rw [dif_pos K.isLt]
  · exact Finset.sum_congr rfl fun t _ => Finset.sum_congr rfl fun k _ => dif_pos _

/-- A device's total, from its blocks of the whole arrays, is its block of the reference's layer. -/
theorem total_block (W1 : FVec Ideal Cert.ReferenceIdeal.S512x8192 .bf16) (W2 : FVec Ideal Cert.ReferenceIdeal.S8192x512 .bf16) (R : FVec Ideal S512x512 .bf16) (c : Dev nD) :
    rnd (total (blkI W1) (blkO W2) (blkX R) c) = blkX (refL W1 W2 R) c := by
  have h : ∀ (i : Fin 64) (j : Fin 512), total (blkI W1) (blkO W2) (blkX R) c (ix2 i j) = blkX (refL W1 W2 R) c (ix2 i j) := ?_
  · funext x
    rw [eq_ix2 x]
    exact h (x 0) (x 1)
  intro i j
  refine (total_apply ..).trans ?_
  rw [blkX_apply, refL_apply, sum_hidden]
  simp only [mlp, blkX_apply, blkI_apply, blkO_apply]

/-- So layer after layer every device holds its block of the reference's activations. -/
theorem Xs_block (I : Ins Ideal) (W1 : ℕ → FVec Ideal Cert.ReferenceIdeal.S512x8192 .bf16) (W2 : ℕ → FVec Ideal Cert.ReferenceIdeal.S8192x512 .bf16)
    (R : ℕ → FVec Ideal S512x512 .bf16) (hR : ∀ l, R (l + 1) = refL (W1 l) (W2 l) (R l)) (hx : I.x = blkX (R 0))
    (hi : ∀ l, I.wi l = blkI (W1 l)) (ho : ∀ l, I.wo l = blkO (W2 l)) (l : ℕ) : Xs I l = blkX (R l) := by
  induction l with
  | zero => exact hx
  | succ l ih =>
    funext c
    rw [Xs_succ, As, ih, hi, ho, hR]
    exact total_block ..

end Cert.Steps

end
-- ==== Proof.Result.lean ====
/-
The kernel's result buffer in exact arithmetic: the reference's last activations, on every device.
-/
module

public import proofs.«01_k».proof.Proof.Spec
public import proofs.«01_k».proof.Proof.Rows

@[expose] public section

set_option maxRecDepth 16384

noncomputable section

namespace Cert.Steps

open Cert.KernelIdeal Cert.KernelIdeal.Gen
open Idealize.ShloMosaic Idealize.ShloMosaic.TcCoe

/-- Every device's result is the whole of the reference's last activations. -/
theorem outOf_eq (I : Ins Ideal) (R : FVec Ideal S512x512 .bf16) (h : Xs I 3 = blkX R) (c : Dev nD) : outOf I c = extf .f32 R bitsLt_bf16_f32 := by
  have hw : ∀ k : Dev nD, (if k = c then As I 2 c else wdn (Xs I 3 k)) = blkX R k := by
    intro k
    split
    · next hk => subst hk; exact (Xs_succ I 2 k).symm.trans (congrFun h k)
    · exact congrFun h k
  funext i
  show (if blkOf i = c then As I 2 c else wdn (Xs I 3 (blkOf i))) (inBlk i) = R i
  rw [hw]
  refine congrArg R (funext fun a => Fin.ext ?_)
  have h0 : (i 0).val / 64 * 64 + (i 0).val % 64 = (i 0).val := Nat.div_add_mod' _ _
  fin_cases a
  · exact h0
  · rfl

end Cert.Steps

end
-- ==== Proof.Value.lean ====
/-
The kernel's result against the reference's, in exact arithmetic.
-/
module

public import proofs.«01_k».proof.Proof.Result
public import proofs.«01_k».proof.Proof.Frames
public import Idealize.ShloMosaic.Lib.Pipeline.ValueKit

@[expose] public section

set_option maxRecDepth 16384

noncomputable section

namespace Cert.Steps

open Cert.KernelIdeal Cert.KernelIdeal.Gen
open Idealize.ShloMosaic Idealize.ShloMosaic.TcCoe

open Idealize.SL.Sem

/-! ## The blocks of the launch: each the whole of its array -/

section Arrays
variable {F : FTy → Type} [FloatOps F]
variable (m : (ℓ : Loc nD τ sig) → Buf (Elt F) ℓ) (ρ : Dev nD → PrngReg) (c : Dev nD)

/-- Each input block is the whole of its argument. -/
theorem in0_eq : in0 m c = m ((c : Thread nD τ).loc main_arg0) := Memref.read_access_unit_zero _ main_arg0 (by decide +kernel) _ _
theorem in1_eq : in1 m c = m ((c : Thread nD τ).loc main_arg1) := Memref.read_access_unit_zero _ main_arg1 (by decide +kernel) _ _
theorem in2_eq : in2 m c = m ((c : Thread nD τ).loc main_arg4) := Memref.read_access_unit_zero _ main_arg4 (by decide +kernel) _ _
theorem in3_eq : in3 m c = m ((c : Thread nD τ).loc main_arg2) := Memref.read_access_unit_zero _ main_arg2 (by decide +kernel) _ _
theorem in4_eq : in4 m c = m ((c : Thread nD τ).loc main_arg5) := Memref.read_access_unit_zero _ main_arg5 (by decide +kernel) _ _
theorem in5_eq : in5 m c = m ((c : Thread nD τ).loc main_arg3) := Memref.read_access_unit_zero _ main_arg3 (by decide +kernel) _ _
theorem in6_eq : in6 m c = m ((c : Thread nD τ).loc main_arg6) := Memref.read_access_unit_zero _ main_arg6 (by decide +kernel) _ _

/-- The result array ends holding what the body leaves in its staging buffer. -/
theorem finalA_out : finalA m ρ c 7 = outOf (insOf m) c := by
  refine (dats m ρ 0 c).arrAt_eq_of_after_last 7 t0_0 (by decide +kernel) _ fun j => ?_
  rfl

end Arrays

/-- The activations of the reference before each layer, from its arguments. -/
def acts (x : FVec Ideal S512x512 .bf16) (W1 : ℕ → FVec Ideal Cert.ReferenceIdeal.S512x8192 .bf16) (W2 : ℕ → FVec Ideal Cert.ReferenceIdeal.S8192x512 .bf16) : ℕ → FVec Ideal S512x512 .bf16
  | 0 => x
  | l + 1 => refL (W1 l) (W2 l) (acts x W1 W2 l)

/-- One of three, by number. -/
def pick {α : Type} (a b c : α) : ℕ → α
  | 0 => a
  | 1 => b
  | _ => c

end Cert.Steps

namespace Cert.Proof

open Cert.Steps Idealize.ShloMosaic Idealize.SL.Sem

/-- The reference's frame. -/
theorem frame_ref : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device's result is the reference's. -/
theorem algebraic : @Cert.algebraic_KernelIdeal_ReferenceIdeal Cert.KernelIdeal.Gen.facts Cert.ReferenceIdeal.Gen.facts := by
  intro m ρ m' ρ' _ hm
  let a (b : Ref Cert.ReferenceIdeal.sig .tc) := m' (((0 : Dev Cert.ReferenceIdeal.nD).tc : Thread Cert.ReferenceIdeal.nD Cert.ReferenceIdeal.τ).loc b)
  let W1 : ℕ → FVec Ideal Cert.ReferenceIdeal.S512x8192 .bf16 := pick (a Cert.ReferenceIdeal.main_arg1) (a Cert.ReferenceIdeal.main_arg2) (a Cert.ReferenceIdeal.main_arg3)
  let W2 : ℕ → FVec Ideal Cert.ReferenceIdeal.S8192x512 .bf16 := pick (a Cert.ReferenceIdeal.main_arg4) (a Cert.ReferenceIdeal.main_arg5) (a Cert.ReferenceIdeal.main_arg6)
  let R := acts (a Cert.ReferenceIdeal.main_arg0) W1 W2
  have hx : (insOf m).x = blkX (R 0) := funext fun c => (in0_eq m c).trans (hm c).1
  have hi : ∀ l, (insOf m).wi l = blkI (W1 l) := fun l => funext fun c => match l with
    | 0 => (in1_eq m c).trans (hm c).2.1
    | 1 => (in3_eq m c).trans (hm c).2.2.1
    | _ + 2 => (in5_eq m c).trans (hm c).2.2.2.1
  have ho : ∀ l, (insOf m).wo l = blkO (W2 l) := fun l => funext fun c => match l with
    | 0 => (in2_eq m c).trans (hm c).2.2.2.2.1
    | 1 => (in4_eq m c).trans (hm c).2.2.2.2.2.1
    | _ + 2 => (in6_eq m c).trans (hm c).2.2.2.2.2.2
  have hX := Xs_block (insOf m) W1 W2 R (fun _ => rfl) hx hi ho 3
  refine ⟨extf .f32 (R 3) Cert.KernelIdeal.Gen.facts.bitsLt_bf16_f32, ?_, ?_⟩
  · exact (θ_run Cert.KernelIdeal.defs _ _).mono
      (fun r h c => ⟨((h.1 c 7).trans (finalA_out m ρ c)).trans (outOf_eq (insOf m) (R 3) hX c), args_kept m ρ h.1 c⟩) (run_main m ρ)
  · exact (θ_run Cert.ReferenceIdeal.defs _ _).mono (fun r h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_bits, frame_ideal, frame_ref, trivial, algebraic⟩

end Cert.Proof

end
